-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 128]⟩ ⟨2, ![4096, 4096]⟩ 1 32 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = m' (((0 : Dev Cert.ReferenceIdeal.nD).tc : Thread Cert.ReferenceIdeal.nD Cert.ReferenceIdeal.τ).loc Cert.ReferenceIdeal.main_arg1)
      ∧ m ((c.tc : Thread Cert.KernelIdeal.nD Cert.KernelIdeal.τ).loc Cert.KernelIdeal.main_arg2) = m' (((0 : Dev Cert.ReferenceIdeal.nD).tc : Thread Cert.ReferenceIdeal.nD Cert.ReferenceIdeal.τ).loc Cert.ReferenceIdeal.main_arg2)
      ∧ m ((c.tc : Thread Cert.KernelIdeal.nD Cert.KernelIdeal.τ).loc Cert.KernelIdeal.main_arg3) = m' (((0 : Dev Cert.ReferenceIdeal.nD).tc : Thread Cert.ReferenceIdeal.nD Cert.ReferenceIdeal.τ).loc Cert.ReferenceIdeal.main_arg3)) →
    ∃ (v0 : Buf (Elt Ideal) (((0 : Dev Cert.ReferenceIdeal.nD).tc : Thread Cert.ReferenceIdeal.nD Cert.ReferenceIdeal.τ).loc Cert.ReferenceIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![128, 8192]⟩ ⟨2, ![4096, 8192]⟩ 0 32 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v0) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x128 : Shape := ⟨2, ![4096, 128]⟩
abbrev S4096x8192 : Shape := ⟨2, ![4096, 8192]⟩
abbrev S1 : Shape := ⟨1, ![1]⟩
abbrev S128x8192 : Shape := ⟨2, ![128, 8192]⟩
abbrev S4096x512 : Shape := ⟨2, ![4096, 512]⟩
abbrev S128x512 : Shape := ⟨2, ![128, 512]⟩
abbrev S128x4096 : Shape := ⟨2, ![128, 4096]⟩
abbrev S32 : Shape := ⟨1, ![32]⟩
abbrev S_ : Shape := ⟨0, ![]⟩
abbrev S128x128 : Shape := ⟨2, ![128, 128]⟩

abbrev nBuf : Space → Nat
  | .hbm => 5
  | .vmem => 7
  | .smem => 2
  | _ => 0

abbrev bufTy : (tb : Table) → Fin (tcTables nBuf tb) → BufTy
  | .hbm, ⟨0, _⟩ => ⟨S4096x128, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S128x8192, .f32⟩
  | .local _ .vmem, ⟨0, _⟩ => ⟨S4096x128, .fp8e5m2⟩
  | .local _ .vmem, ⟨1, _⟩ => ⟨S4096x512, .fp8e5m2⟩
  | .local _ .vmem, ⟨2, _⟩ => ⟨S4096x512, .fp8e5m2⟩
  | .local _ .vmem, ⟨3, _⟩ => ⟨S128x512, .f32⟩
  | .local _ .vmem, ⟨4, _⟩ => ⟨S128x512, .f32⟩
  | .local _ .vmem, ⟨5, _⟩ => ⟨S4096x128, .fp8e5m2⟩
  | .local _ .vmem, ⟨6, _⟩ => ⟨S128x4096, .fp8e5m2⟩
  | .local _ .smem, ⟨0, _⟩ => ⟨S1, .f32⟩
  | .local _ .smem, ⟨1, _⟩ => ⟨S1, .f32⟩
  | _, _ => ⟨S4096x128, .fp8e5m2⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .smem, ⟨0, _⟩ => true
  | .smem, ⟨1, _⟩ => true
  | _, _ => false

abbrev semScoped : Fin 1 → Bool
  | ⟨0, _⟩ => false
  | _ => false

abbrev dmaSemScoped : Fin 71 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | _ => false

abbrev sig : RefSig :=
  (ofTc nBuf bufTy 1 71 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg4_0 : Ref sig .tc := ⟨.vmem, 3, rfl⟩
abbrev cc0_stg4_1 : Ref sig .tc := ⟨.vmem, 4, rfl⟩
abbrev cc0_scratch0 : Ref sig .tc := ⟨.vmem, 5, rfl⟩
abbrev cc0_scratch1 : Ref sig .tc := ⟨.vmem, 6, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem4_0 : DmaSem sig := 5
abbrev cc0_sem4_1 : DmaSem sig := 6
abbrev barrier0 : Sem sig := 0

abbrev nD : Nat := 32
abbrev τ : Topo := Topo.v7x

variable {F : FTy → Type} [FloatOps F]

abbrev grid0 : Pipeline.Grid := ⟨1, ![16], ![false]⟩

def k0_cond1 (i : grid0.Coords) : BitVec 1 :=
  let arg0 : BitVec 32 := BitVec.ofNat 32 (i 0).val
  let c0_i32 : BitVec 32 := 0#32
  let v3 : BitVec 1 := Scalar.cmpi .eq arg0 c0_i32
  let v4 : BitVec 32 := Scalar.extui v3
  let c0_i32_0 : BitVec 32 := 0#32
  let v5 : BitVec 1 := Scalar.cmpi .ne v4 c0_i32_0
  v5

def k0_dev1 (d0 : Dev nD) : Nat :=
  let c0_i32_17 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_13 : BitVec 32 := 1#32
  let v31 : BitVec 32 := Scalar.addi v2 c1_i32_13
  let c32_i32_14 : BitVec 32 := 32#32
  let v32 : BitVec 32 := Scalar.remsi v31 c32_i32_14
  let c1_i32_16 : BitVec 32 := 1#32
  let v33 : BitVec 32 := Scalar.muli v32 c1_i32_16
  let v34 : BitVec 32 := Scalar.addi c0_i32_17 v33
  v34.toNat
def k0_dev2 (d0 : Dev nD) : Nat :=
  let c0_i32_21 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32 : BitVec 32 := 2#32
  let v35 : BitVec 32 := Scalar.addi v2 c2_i32
  let c32_i32_18 : BitVec 32 := 32#32
  let v36 : BitVec 32 := Scalar.remsi v35 c32_i32_18
  let c1_i32_20 : BitVec 32 := 1#32
  let v37 : BitVec 32 := Scalar.muli v36 c1_i32_20
  let v38 : BitVec 32 := Scalar.addi c0_i32_21 v37
  v38.toNat
def k0_dev3 (d0 : Dev nD) : Nat :=
  let c0_i32_25 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32 : BitVec 32 := 3#32
  let v39 : BitVec 32 := Scalar.addi v2 c3_i32
  let c32_i32_22 : BitVec 32 := 32#32
  let v40 : BitVec 32 := Scalar.remsi v39 c32_i32_22
  let c1_i32_24 : BitVec 32 := 1#32
  let v41 : BitVec 32 := Scalar.muli v40 c1_i32_24
  let v42 : BitVec 32 := Scalar.addi c0_i32_25 v41
  v42.toNat
def k0_dev4 (d0 : Dev nD) : Nat :=
  let c0_i32_29 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32 : BitVec 32 := 4#32
  let v43 : BitVec 32 := Scalar.addi v2 c4_i32
  let c32_i32_26 : BitVec 32 := 32#32
  let v44 : BitVec 32 := Scalar.remsi v43 c32_i32_26
  let c1_i32_28 : BitVec 32 := 1#32
  let v45 : BitVec 32 := Scalar.muli v44 c1_i32_28
  let v46 : BitVec 32 := Scalar.addi c0_i32_29 v45
  v46.toNat
def k0_dev5 (d0 : Dev nD) : Nat :=
  let c0_i32_33 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32 : BitVec 32 := 5#32
  let v47 : BitVec 32 := Scalar.addi v2 c5_i32
  let c32_i32_30 : BitVec 32 := 32#32
  let v48 : BitVec 32 := Scalar.remsi v47 c32_i32_30
  let c1_i32_32 : BitVec 32 := 1#32
  let v49 : BitVec 32 := Scalar.muli v48 c1_i32_32
  let v50 : BitVec 32 := Scalar.addi c0_i32_33 v49
  v50.toNat
def k0_dev6 (d0 : Dev nD) : Nat :=
  let c0_i32_37 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32 : BitVec 32 := 6#32
  let v51 : BitVec 32 := Scalar.addi v2 c6_i32
  let c32_i32_34 : BitVec 32 := 32#32
  let v52 : BitVec 32 := Scalar.remsi v51 c32_i32_34
  let c1_i32_36 : BitVec 32 := 1#32
  let v53 : BitVec 32 := Scalar.muli v52 c1_i32_36
  let v54 : BitVec 32 := Scalar.addi c0_i32_37 v53
  v54.toNat
def k0_dev7 (d0 : Dev nD) : Nat :=
  let c0_i32_41 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32 : BitVec 32 := 7#32
  let v55 : BitVec 32 := Scalar.addi v2 c7_i32
  let c32_i32_38 : BitVec 32 := 32#32
  let v56 : BitVec 32 := Scalar.remsi v55 c32_i32_38
  let c1_i32_40 : BitVec 32 := 1#32
  let v57 : BitVec 32 := Scalar.muli v56 c1_i32_40
  let v58 : BitVec 32 := Scalar.addi c0_i32_41 v57
  v58.toNat
def k0_dev8 (d0 : Dev nD) : Nat :=
  let c0_i32_45 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32 : BitVec 32 := 8#32
  let v59 : BitVec 32 := Scalar.addi v2 c8_i32
  let c32_i32_42 : BitVec 32 := 32#32
  let v60 : BitVec 32 := Scalar.remsi v59 c32_i32_42
  let c1_i32_44 : BitVec 32 := 1#32
  let v61 : BitVec 32 := Scalar.muli v60 c1_i32_44
  let v62 : BitVec 32 := Scalar.addi c0_i32_45 v61
  v62.toNat
def k0_dev9 (d0 : Dev nD) : Nat :=
  let c0_i32_49 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32 : BitVec 32 := 9#32
  let v63 : BitVec 32 := Scalar.addi v2 c9_i32
  let c32_i32_46 : BitVec 32 := 32#32
  let v64 : BitVec 32 := Scalar.remsi v63 c32_i32_46
  let c1_i32_48 : BitVec 32 := 1#32
  let v65 : BitVec 32 := Scalar.muli v64 c1_i32_48
  let v66 : BitVec 32 := Scalar.addi c0_i32_49 v65
  v66.toNat
def k0_dev10 (d0 : Dev nD) : Nat :=
  let c0_i32_53 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32 : BitVec 32 := 10#32
  let v67 : BitVec 32 := Scalar.addi v2 c10_i32
  let c32_i32_50 : BitVec 32 := 32#32
  let v68 : BitVec 32 := Scalar.remsi v67 c32_i32_50
  let c1_i32_52 : BitVec 32 := 1#32
  let v69 : BitVec 32 := Scalar.muli v68 c1_i32_52
  let v70 : BitVec 32 := Scalar.addi c0_i32_53 v69
  v70.toNat
def k0_dev11 (d0 : Dev nD) : Nat :=
  let c0_i32_57 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32 : BitVec 32 := 11#32
  let v71 : BitVec 32 := Scalar.addi v2 c11_i32
  let c32_i32_54 : BitVec 32 := 32#32
  let v72 : BitVec 32 := Scalar.remsi v71 c32_i32_54
  let c1_i32_56 : BitVec 32 := 1#32
  let v73 : BitVec 32 := Scalar.muli v72 c1_i32_56
  let v74 : BitVec 32 := Scalar.addi c0_i32_57 v73
  v74.toNat
def k0_dev12 (d0 : Dev nD) : Nat :=
  let c0_i32_61 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32 : BitVec 32 := 12#32
  let v75 : BitVec 32 := Scalar.addi v2 c12_i32
  let c32_i32_58 : BitVec 32 := 32#32
  let v76 : BitVec 32 := Scalar.remsi v75 c32_i32_58
  let c1_i32_60 : BitVec 32 := 1#32
  let v77 : BitVec 32 := Scalar.muli v76 c1_i32_60
  let v78 : BitVec 32 := Scalar.addi c0_i32_61 v77
  v78.toNat
def k0_dev13 (d0 : Dev nD) : Nat :=
  let c0_i32_65 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32 : BitVec 32 := 13#32
  let v79 : BitVec 32 := Scalar.addi v2 c13_i32
  let c32_i32_62 : BitVec 32 := 32#32
  let v80 : BitVec 32 := Scalar.remsi v79 c32_i32_62
  let c1_i32_64 : BitVec 32 := 1#32
  let v81 : BitVec 32 := Scalar.muli v80 c1_i32_64
  let v82 : BitVec 32 := Scalar.addi c0_i32_65 v81
  v82.toNat
def k0_dev14 (d0 : Dev nD) : Nat :=
  let c0_i32_69 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32 : BitVec 32 := 14#32
  let v83 : BitVec 32 := Scalar.addi v2 c14_i32
  let c32_i32_66 : BitVec 32 := 32#32
  let v84 : BitVec 32 := Scalar.remsi v83 c32_i32_66
  let c1_i32_68 : BitVec 32 := 1#32
  let v85 : BitVec 32 := Scalar.muli v84 c1_i32_68
  let v86 : BitVec 32 := Scalar.addi c0_i32_69 v85
  v86.toNat
def k0_dev15 (d0 : Dev nD) : Nat :=
  let c0_i32_73 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32 : BitVec 32 := 15#32
  let v87 : BitVec 32 := Scalar.addi v2 c15_i32
  let c32_i32_70 : BitVec 32 := 32#32
  let v88 : BitVec 32 := Scalar.remsi v87 c32_i32_70
  let c1_i32_72 : BitVec 32 := 1#32
  let v89 : BitVec 32 := Scalar.muli v88 c1_i32_72
  let v90 : BitVec 32 := Scalar.addi c0_i32_73 v89
  v90.toNat
def k0_dev16 (d0 : Dev nD) : Nat :=
  let c0_i32_77 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32 : BitVec 32 := 16#32
  let v91 : BitVec 32 := Scalar.addi v2 c16_i32
  let c32_i32_74 : BitVec 32 := 32#32
  let v92 : BitVec 32 := Scalar.remsi v91 c32_i32_74
  let c1_i32_76 : BitVec 32 := 1#32
  let v93 : BitVec 32 := Scalar.muli v92 c1_i32_76
  let v94 : BitVec 32 := Scalar.addi c0_i32_77 v93
  v94.toNat
def k0_dev17 (d0 : Dev nD) : Nat :=
  let c0_i32_81 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32 : BitVec 32 := 17#32
  let v95 : BitVec 32 := Scalar.addi v2 c17_i32
  let c32_i32_78 : BitVec 32 := 32#32
  let v96 : BitVec 32 := Scalar.remsi v95 c32_i32_78
  let c1_i32_80 : BitVec 32 := 1#32
  let v97 : BitVec 32 := Scalar.muli v96 c1_i32_80
  let v98 : BitVec 32 := Scalar.addi c0_i32_81 v97
  v98.toNat
def k0_dev18 (d0 : Dev nD) : Nat :=
  let c0_i32_85 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32 : BitVec 32 := 18#32
  let v99 : BitVec 32 := Scalar.addi v2 c18_i32
  let c32_i32_82 : BitVec 32 := 32#32
  let v100 : BitVec 32 := Scalar.remsi v99 c32_i32_82
  let c1_i32_84 : BitVec 32 := 1#32
  let v101 : BitVec 32 := Scalar.muli v100 c1_i32_84
  let v102 : BitVec 32 := Scalar.addi c0_i32_85 v101
  v102.toNat
def k0_dev19 (d0 : Dev nD) : Nat :=
  let c0_i32_89 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32 : BitVec 32 := 19#32
  let v103 : BitVec 32 := Scalar.addi v2 c19_i32
  let c32_i32_86 : BitVec 32 := 32#32
  let v104 : BitVec 32 := Scalar.remsi v103 c32_i32_86
  let c1_i32_88 : BitVec 32 := 1#32
  let v105 : BitVec 32 := Scalar.muli v104 c1_i32_88
  let v106 : BitVec 32 := Scalar.addi c0_i32_89 v105
  v106.toNat
def k0_dev20 (d0 : Dev nD) : Nat :=
  let c0_i32_93 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32 : BitVec 32 := 20#32
  let v107 : BitVec 32 := Scalar.addi v2 c20_i32
  let c32_i32_90 : BitVec 32 := 32#32
  let v108 : BitVec 32 := Scalar.remsi v107 c32_i32_90
  let c1_i32_92 : BitVec 32 := 1#32
  let v109 : BitVec 32 := Scalar.muli v108 c1_i32_92
  let v110 : BitVec 32 := Scalar.addi c0_i32_93 v109
  v110.toNat
def k0_dev21 (d0 : Dev nD) : Nat :=
  let c0_i32_97 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32 : BitVec 32 := 21#32
  let v111 : BitVec 32 := Scalar.addi v2 c21_i32
  let c32_i32_94 : BitVec 32 := 32#32
  let v112 : BitVec 32 := Scalar.remsi v111 c32_i32_94
  let c1_i32_96 : BitVec 32 := 1#32
  let v113 : BitVec 32 := Scalar.muli v112 c1_i32_96
  let v114 : BitVec 32 := Scalar.addi c0_i32_97 v113
  v114.toNat
def k0_dev22 (d0 : Dev nD) : Nat :=
  let c0_i32_101 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32 : BitVec 32 := 22#32
  let v115 : BitVec 32 := Scalar.addi v2 c22_i32
  let c32_i32_98 : BitVec 32 := 32#32
  let v116 : BitVec 32 := Scalar.remsi v115 c32_i32_98
  let c1_i32_100 : BitVec 32 := 1#32
  let v117 : BitVec 32 := Scalar.muli v116 c1_i32_100
  let v118 : BitVec 32 := Scalar.addi c0_i32_101 v117
  v118.toNat
def k0_dev23 (d0 : Dev nD) : Nat :=
  let c0_i32_105 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32 : BitVec 32 := 23#32
  let v119 : BitVec 32 := Scalar.addi v2 c23_i32
  let c32_i32_102 : BitVec 32 := 32#32
  let v120 : BitVec 32 := Scalar.remsi v119 c32_i32_102
  let c1_i32_104 : BitVec 32 := 1#32
  let v121 : BitVec 32 := Scalar.muli v120 c1_i32_104
  let v122 : BitVec 32 := Scalar.addi c0_i32_105 v121
  v122.toNat
def k0_dev24 (d0 : Dev nD) : Nat :=
  let c0_i32_109 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32 : BitVec 32 := 24#32
  let v123 : BitVec 32 := Scalar.addi v2 c24_i32
  let c32_i32_106 : BitVec 32 := 32#32
  let v124 : BitVec 32 := Scalar.remsi v123 c32_i32_106
  let c1_i32_108 : BitVec 32 := 1#32
  let v125 : BitVec 32 := Scalar.muli v124 c1_i32_108
  let v126 : BitVec 32 := Scalar.addi c0_i32_109 v125
  v126.toNat
def k0_dev25 (d0 : Dev nD) : Nat :=
  let c0_i32_113 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32 : BitVec 32 := 25#32
  let v127 : BitVec 32 := Scalar.addi v2 c25_i32
  let c32_i32_110 : BitVec 32 := 32#32
  let v128 : BitVec 32 := Scalar.remsi v127 c32_i32_110
  let c1_i32_112 : BitVec 32 := 1#32
  let v129 : BitVec 32 := Scalar.muli v128 c1_i32_112
  let v130 : BitVec 32 := Scalar.addi c0_i32_113 v129
  v130.toNat
def k0_dev26 (d0 : Dev nD) : Nat :=
  let c0_i32_117 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32 : BitVec 32 := 26#32
  let v131 : BitVec 32 := Scalar.addi v2 c26_i32
  let c32_i32_114 : BitVec 32 := 32#32
  let v132 : BitVec 32 := Scalar.remsi v131 c32_i32_114
  let c1_i32_116 : BitVec 32 := 1#32
  let v133 : BitVec 32 := Scalar.muli v132 c1_i32_116
  let v134 : BitVec 32 := Scalar.addi c0_i32_117 v133
  v134.toNat
def k0_dev27 (d0 : Dev nD) : Nat :=
  let c0_i32_121 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32 : BitVec 32 := 27#32
  let v135 : BitVec 32 := Scalar.addi v2 c27_i32
  let c32_i32_118 : BitVec 32 := 32#32
  let v136 : BitVec 32 := Scalar.remsi v135 c32_i32_118
  let c1_i32_120 : BitVec 32 := 1#32
  let v137 : BitVec 32 := Scalar.muli v136 c1_i32_120
  let v138 : BitVec 32 := Scalar.addi c0_i32_121 v137
  v138.toNat
def k0_dev28 (d0 : Dev nD) : Nat :=
  let c0_i32_125 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32 : BitVec 32 := 28#32
  let v139 : BitVec 32 := Scalar.addi v2 c28_i32
  let c32_i32_122 : BitVec 32 := 32#32
  let v140 : BitVec 32 := Scalar.remsi v139 c32_i32_122
  let c1_i32_124 : BitVec 32 := 1#32
  let v141 : BitVec 32 := Scalar.muli v140 c1_i32_124
  let v142 : BitVec 32 := Scalar.addi c0_i32_125 v141
  v142.toNat
def k0_dev29 (d0 : Dev nD) : Nat :=
  let c0_i32_129 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32 : BitVec 32 := 29#32
  let v143 : BitVec 32 := Scalar.addi v2 c29_i32
  let c32_i32_126 : BitVec 32 := 32#32
  let v144 : BitVec 32 := Scalar.remsi v143 c32_i32_126
  let c1_i32_128 : BitVec 32 := 1#32
  let v145 : BitVec 32 := Scalar.muli v144 c1_i32_128
  let v146 : BitVec 32 := Scalar.addi c0_i32_129 v145
  v146.toNat
def k0_dev30 (d0 : Dev nD) : Nat :=
  let c0_i32_133 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32 : BitVec 32 := 30#32
  let v147 : BitVec 32 := Scalar.addi v2 c30_i32
  let c32_i32_130 : BitVec 32 := 32#32
  let v148 : BitVec 32 := Scalar.remsi v147 c32_i32_130
  let c1_i32_132 : BitVec 32 := 1#32
  let v149 : BitVec 32 := Scalar.muli v148 c1_i32_132
  let v150 : BitVec 32 := Scalar.addi c0_i32_133 v149
  v150.toNat
def k0_dev31 (d0 : Dev nD) : Nat :=
  let c0_i32_137 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32 : BitVec 32 := 31#32
  let v151 : BitVec 32 := Scalar.addi v2 c31_i32
  let c32_i32_134 : BitVec 32 := 32#32
  let v152 : BitVec 32 := Scalar.remsi v151 c32_i32_134
  let c1_i32_136 : BitVec 32 := 1#32
  let v153 : BitVec 32 := Scalar.muli v152 c1_i32_136
  let v154 : BitVec 32 := Scalar.addi c0_i32_137 v153
  v154.toNat
def k0_off1 (d0 : Dev nD) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32 : BitVec 32 := 128#32
  let v160 : BitVec 32 := Scalar.muli v2 c128_i32
  let v161 : Index := Scalar.indexCast v160
  let c0_143 : Index := 0#32
  ![v161.toNat, 0]
def k0_off2 (d0 : Dev nD) : Fin 2 → Nat :=
  let c0_145 : Index := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_144 : BitVec 32 := 128#32
  let v163 : BitVec 32 := Scalar.muli v2 c128_i32_144
  let v164 : Index := Scalar.indexCast v163
  ![0, v164.toNat]
def k0_off3 (d0 : Dev nD) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  ![v2.toNat]
def k0_off4 (d0 : Dev nD) : Fin 2 → Nat :=
  let c0_i32_153 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c128_i32_149 : BitVec 32 := 128#32
  let v171 : BitVec 32 := Scalar.muli v2 c128_i32_149
  ![0, v171.toNat]
def k0_off5 (d0 : Dev nD) (c1_i32_146 : BitVec 32) : Fin 2 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v168 : BitVec 32 := Scalar.addi v2 c1_i32_146
  let c32_i32_147 : BitVec 32 := 32#32
  let v169 : BitVec 32 := Scalar.remsi v168 c32_i32_147
  let c128_i32_148 : BitVec 32 := 128#32
  let v170 : BitVec 32 := Scalar.muli v169 c128_i32_148
  let c0_i32_154 : BitVec 32 := 0#32
  ![v170.toNat, 0]
def k0_dev32 (d0 : Dev nD) : Nat :=
  let c0_i32_152 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c1_i32_146 : BitVec 32 := 1#32
  let v168 : BitVec 32 := Scalar.addi v2 c1_i32_146
  let c32_i32_147 : BitVec 32 := 32#32
  let v169 : BitVec 32 := Scalar.remsi v168 c32_i32_147
  let c1_i32_151 : BitVec 32 := 1#32
  let v172 : BitVec 32 := Scalar.muli v169 c1_i32_151
  let v173 : BitVec 32 := Scalar.addi c0_i32_152 v172
  v173.toNat
def k0_dev33 (d0 : Dev nD) : Nat :=
  let c0_i32_161 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c2_i32_155 : BitVec 32 := 2#32
  let v180 : BitVec 32 := Scalar.addi v2 c2_i32_155
  let c32_i32_156 : BitVec 32 := 32#32
  let v181 : BitVec 32 := Scalar.remsi v180 c32_i32_156
  let c1_i32_160 : BitVec 32 := 1#32
  let v184 : BitVec 32 := Scalar.muli v181 c1_i32_160
  let v185 : BitVec 32 := Scalar.addi c0_i32_161 v184
  v185.toNat
def k0_dev34 (d0 : Dev nD) : Nat :=
  let c0_i32_170 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c3_i32_164 : BitVec 32 := 3#32
  let v192 : BitVec 32 := Scalar.addi v2 c3_i32_164
  let c32_i32_165 : BitVec 32 := 32#32
  let v193 : BitVec 32 := Scalar.remsi v192 c32_i32_165
  let c1_i32_169 : BitVec 32 := 1#32
  let v196 : BitVec 32 := Scalar.muli v193 c1_i32_169
  let v197 : BitVec 32 := Scalar.addi c0_i32_170 v196
  v197.toNat
def k0_dev35 (d0 : Dev nD) : Nat :=
  let c0_i32_179 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c4_i32_173 : BitVec 32 := 4#32
  let v204 : BitVec 32 := Scalar.addi v2 c4_i32_173
  let c32_i32_174 : BitVec 32 := 32#32
  let v205 : BitVec 32 := Scalar.remsi v204 c32_i32_174
  let c1_i32_178 : BitVec 32 := 1#32
  let v208 : BitVec 32 := Scalar.muli v205 c1_i32_178
  let v209 : BitVec 32 := Scalar.addi c0_i32_179 v208
  v209.toNat
def k0_dev36 (d0 : Dev nD) : Nat :=
  let c0_i32_188 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c5_i32_182 : BitVec 32 := 5#32
  let v216 : BitVec 32 := Scalar.addi v2 c5_i32_182
  let c32_i32_183 : BitVec 32 := 32#32
  let v217 : BitVec 32 := Scalar.remsi v216 c32_i32_183
  let c1_i32_187 : BitVec 32 := 1#32
  let v220 : BitVec 32 := Scalar.muli v217 c1_i32_187
  let v221 : BitVec 32 := Scalar.addi c0_i32_188 v220
  v221.toNat
def k0_dev37 (d0 : Dev nD) : Nat :=
  let c0_i32_197 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c6_i32_191 : BitVec 32 := 6#32
  let v228 : BitVec 32 := Scalar.addi v2 c6_i32_191
  let c32_i32_192 : BitVec 32 := 32#32
  let v229 : BitVec 32 := Scalar.remsi v228 c32_i32_192
  let c1_i32_196 : BitVec 32 := 1#32
  let v232 : BitVec 32 := Scalar.muli v229 c1_i32_196
  let v233 : BitVec 32 := Scalar.addi c0_i32_197 v232
  v233.toNat
def k0_dev38 (d0 : Dev nD) : Nat :=
  let c0_i32_206 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c7_i32_200 : BitVec 32 := 7#32
  let v240 : BitVec 32 := Scalar.addi v2 c7_i32_200
  let c32_i32_201 : BitVec 32 := 32#32
  let v241 : BitVec 32 := Scalar.remsi v240 c32_i32_201
  let c1_i32_205 : BitVec 32 := 1#32
  let v244 : BitVec 32 := Scalar.muli v241 c1_i32_205
  let v245 : BitVec 32 := Scalar.addi c0_i32_206 v244
  v245.toNat
def k0_dev39 (d0 : Dev nD) : Nat :=
  let c0_i32_215 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c8_i32_209 : BitVec 32 := 8#32
  let v252 : BitVec 32 := Scalar.addi v2 c8_i32_209
  let c32_i32_210 : BitVec 32 := 32#32
  let v253 : BitVec 32 := Scalar.remsi v252 c32_i32_210
  let c1_i32_214 : BitVec 32 := 1#32
  let v256 : BitVec 32 := Scalar.muli v253 c1_i32_214
  let v257 : BitVec 32 := Scalar.addi c0_i32_215 v256
  v257.toNat
def k0_dev40 (d0 : Dev nD) : Nat :=
  let c0_i32_224 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c9_i32_218 : BitVec 32 := 9#32
  let v264 : BitVec 32 := Scalar.addi v2 c9_i32_218
  let c32_i32_219 : BitVec 32 := 32#32
  let v265 : BitVec 32 := Scalar.remsi v264 c32_i32_219
  let c1_i32_223 : BitVec 32 := 1#32
  let v268 : BitVec 32 := Scalar.muli v265 c1_i32_223
  let v269 : BitVec 32 := Scalar.addi c0_i32_224 v268
  v269.toNat
def k0_dev41 (d0 : Dev nD) : Nat :=
  let c0_i32_233 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c10_i32_227 : BitVec 32 := 10#32
  let v276 : BitVec 32 := Scalar.addi v2 c10_i32_227
  let c32_i32_228 : BitVec 32 := 32#32
  let v277 : BitVec 32 := Scalar.remsi v276 c32_i32_228
  let c1_i32_232 : BitVec 32 := 1#32
  let v280 : BitVec 32 := Scalar.muli v277 c1_i32_232
  let v281 : BitVec 32 := Scalar.addi c0_i32_233 v280
  v281.toNat
def k0_dev42 (d0 : Dev nD) : Nat :=
  let c0_i32_242 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c11_i32_236 : BitVec 32 := 11#32
  let v288 : BitVec 32 := Scalar.addi v2 c11_i32_236
  let c32_i32_237 : BitVec 32 := 32#32
  let v289 : BitVec 32 := Scalar.remsi v288 c32_i32_237
  let c1_i32_241 : BitVec 32 := 1#32
  let v292 : BitVec 32 := Scalar.muli v289 c1_i32_241
  let v293 : BitVec 32 := Scalar.addi c0_i32_242 v292
  v293.toNat
def k0_dev43 (d0 : Dev nD) : Nat :=
  let c0_i32_251 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c12_i32_245 : BitVec 32 := 12#32
  let v300 : BitVec 32 := Scalar.addi v2 c12_i32_245
  let c32_i32_246 : BitVec 32 := 32#32
  let v301 : BitVec 32 := Scalar.remsi v300 c32_i32_246
  let c1_i32_250 : BitVec 32 := 1#32
  let v304 : BitVec 32 := Scalar.muli v301 c1_i32_250
  let v305 : BitVec 32 := Scalar.addi c0_i32_251 v304
  v305.toNat
def k0_dev44 (d0 : Dev nD) : Nat :=
  let c0_i32_260 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c13_i32_254 : BitVec 32 := 13#32
  let v312 : BitVec 32 := Scalar.addi v2 c13_i32_254
  let c32_i32_255 : BitVec 32 := 32#32
  let v313 : BitVec 32 := Scalar.remsi v312 c32_i32_255
  let c1_i32_259 : BitVec 32 := 1#32
  let v316 : BitVec 32 := Scalar.muli v313 c1_i32_259
  let v317 : BitVec 32 := Scalar.addi c0_i32_260 v316
  v317.toNat
def k0_dev45 (d0 : Dev nD) : Nat :=
  let c0_i32_269 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c14_i32_263 : BitVec 32 := 14#32
  let v324 : BitVec 32 := Scalar.addi v2 c14_i32_263
  let c32_i32_264 : BitVec 32 := 32#32
  let v325 : BitVec 32 := Scalar.remsi v324 c32_i32_264
  let c1_i32_268 : BitVec 32 := 1#32
  let v328 : BitVec 32 := Scalar.muli v325 c1_i32_268
  let v329 : BitVec 32 := Scalar.addi c0_i32_269 v328
  v329.toNat
def k0_dev46 (d0 : Dev nD) : Nat :=
  let c0_i32_278 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c15_i32_272 : BitVec 32 := 15#32
  let v336 : BitVec 32 := Scalar.addi v2 c15_i32_272
  let c32_i32_273 : BitVec 32 := 32#32
  let v337 : BitVec 32 := Scalar.remsi v336 c32_i32_273
  let c1_i32_277 : BitVec 32 := 1#32
  let v340 : BitVec 32 := Scalar.muli v337 c1_i32_277
  let v341 : BitVec 32 := Scalar.addi c0_i32_278 v340
  v341.toNat
def k0_dev47 (d0 : Dev nD) : Nat :=
  let c0_i32_287 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c16_i32_281 : BitVec 32 := 16#32
  let v348 : BitVec 32 := Scalar.addi v2 c16_i32_281
  let c32_i32_282 : BitVec 32 := 32#32
  let v349 : BitVec 32 := Scalar.remsi v348 c32_i32_282
  let c1_i32_286 : BitVec 32 := 1#32
  let v352 : BitVec 32 := Scalar.muli v349 c1_i32_286
  let v353 : BitVec 32 := Scalar.addi c0_i32_287 v352
  v353.toNat
def k0_dev48 (d0 : Dev nD) : Nat :=
  let c0_i32_296 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c17_i32_290 : BitVec 32 := 17#32
  let v360 : BitVec 32 := Scalar.addi v2 c17_i32_290
  let c32_i32_291 : BitVec 32 := 32#32
  let v361 : BitVec 32 := Scalar.remsi v360 c32_i32_291
  let c1_i32_295 : BitVec 32 := 1#32
  let v364 : BitVec 32 := Scalar.muli v361 c1_i32_295
  let v365 : BitVec 32 := Scalar.addi c0_i32_296 v364
  v365.toNat
def k0_dev49 (d0 : Dev nD) : Nat :=
  let c0_i32_305 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c18_i32_299 : BitVec 32 := 18#32
  let v372 : BitVec 32 := Scalar.addi v2 c18_i32_299
  let c32_i32_300 : BitVec 32 := 32#32
  let v373 : BitVec 32 := Scalar.remsi v372 c32_i32_300
  let c1_i32_304 : BitVec 32 := 1#32
  let v376 : BitVec 32 := Scalar.muli v373 c1_i32_304
  let v377 : BitVec 32 := Scalar.addi c0_i32_305 v376
  v377.toNat
def k0_dev50 (d0 : Dev nD) : Nat :=
  let c0_i32_314 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c19_i32_308 : BitVec 32 := 19#32
  let v384 : BitVec 32 := Scalar.addi v2 c19_i32_308
  let c32_i32_309 : BitVec 32 := 32#32
  let v385 : BitVec 32 := Scalar.remsi v384 c32_i32_309
  let c1_i32_313 : BitVec 32 := 1#32
  let v388 : BitVec 32 := Scalar.muli v385 c1_i32_313
  let v389 : BitVec 32 := Scalar.addi c0_i32_314 v388
  v389.toNat
def k0_dev51 (d0 : Dev nD) : Nat :=
  let c0_i32_323 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c20_i32_317 : BitVec 32 := 20#32
  let v396 : BitVec 32 := Scalar.addi v2 c20_i32_317
  let c32_i32_318 : BitVec 32 := 32#32
  let v397 : BitVec 32 := Scalar.remsi v396 c32_i32_318
  let c1_i32_322 : BitVec 32 := 1#32
  let v400 : BitVec 32 := Scalar.muli v397 c1_i32_322
  let v401 : BitVec 32 := Scalar.addi c0_i32_323 v400
  v401.toNat
def k0_dev52 (d0 : Dev nD) : Nat :=
  let c0_i32_332 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c21_i32_326 : BitVec 32 := 21#32
  let v408 : BitVec 32 := Scalar.addi v2 c21_i32_326
  let c32_i32_327 : BitVec 32 := 32#32
  let v409 : BitVec 32 := Scalar.remsi v408 c32_i32_327
  let c1_i32_331 : BitVec 32 := 1#32
  let v412 : BitVec 32 := Scalar.muli v409 c1_i32_331
  let v413 : BitVec 32 := Scalar.addi c0_i32_332 v412
  v413.toNat
def k0_dev53 (d0 : Dev nD) : Nat :=
  let c0_i32_341 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c22_i32_335 : BitVec 32 := 22#32
  let v420 : BitVec 32 := Scalar.addi v2 c22_i32_335
  let c32_i32_336 : BitVec 32 := 32#32
  let v421 : BitVec 32 := Scalar.remsi v420 c32_i32_336
  let c1_i32_340 : BitVec 32 := 1#32
  let v424 : BitVec 32 := Scalar.muli v421 c1_i32_340
  let v425 : BitVec 32 := Scalar.addi c0_i32_341 v424
  v425.toNat
def k0_dev54 (d0 : Dev nD) : Nat :=
  let c0_i32_350 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c23_i32_344 : BitVec 32 := 23#32
  let v432 : BitVec 32 := Scalar.addi v2 c23_i32_344
  let c32_i32_345 : BitVec 32 := 32#32
  let v433 : BitVec 32 := Scalar.remsi v432 c32_i32_345
  let c1_i32_349 : BitVec 32 := 1#32
  let v436 : BitVec 32 := Scalar.muli v433 c1_i32_349
  let v437 : BitVec 32 := Scalar.addi c0_i32_350 v436
  v437.toNat
def k0_dev55 (d0 : Dev nD) : Nat :=
  let c0_i32_359 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c24_i32_353 : BitVec 32 := 24#32
  let v444 : BitVec 32 := Scalar.addi v2 c24_i32_353
  let c32_i32_354 : BitVec 32 := 32#32
  let v445 : BitVec 32 := Scalar.remsi v444 c32_i32_354
  let c1_i32_358 : BitVec 32 := 1#32
  let v448 : BitVec 32 := Scalar.muli v445 c1_i32_358
  let v449 : BitVec 32 := Scalar.addi c0_i32_359 v448
  v449.toNat
def k0_dev56 (d0 : Dev nD) : Nat :=
  let c0_i32_368 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c25_i32_362 : BitVec 32 := 25#32
  let v456 : BitVec 32 := Scalar.addi v2 c25_i32_362
  let c32_i32_363 : BitVec 32 := 32#32
  let v457 : BitVec 32 := Scalar.remsi v456 c32_i32_363
  let c1_i32_367 : BitVec 32 := 1#32
  let v460 : BitVec 32 := Scalar.muli v457 c1_i32_367
  let v461 : BitVec 32 := Scalar.addi c0_i32_368 v460
  v461.toNat
def k0_dev57 (d0 : Dev nD) : Nat :=
  let c0_i32_377 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c26_i32_371 : BitVec 32 := 26#32
  let v468 : BitVec 32 := Scalar.addi v2 c26_i32_371
  let c32_i32_372 : BitVec 32 := 32#32
  let v469 : BitVec 32 := Scalar.remsi v468 c32_i32_372
  let c1_i32_376 : BitVec 32 := 1#32
  let v472 : BitVec 32 := Scalar.muli v469 c1_i32_376
  let v473 : BitVec 32 := Scalar.addi c0_i32_377 v472
  v473.toNat
def k0_dev58 (d0 : Dev nD) : Nat :=
  let c0_i32_386 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c27_i32_380 : BitVec 32 := 27#32
  let v480 : BitVec 32 := Scalar.addi v2 c27_i32_380
  let c32_i32_381 : BitVec 32 := 32#32
  let v481 : BitVec 32 := Scalar.remsi v480 c32_i32_381
  let c1_i32_385 : BitVec 32 := 1#32
  let v484 : BitVec 32 := Scalar.muli v481 c1_i32_385
  let v485 : BitVec 32 := Scalar.addi c0_i32_386 v484
  v485.toNat
def k0_dev59 (d0 : Dev nD) : Nat :=
  let c0_i32_395 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c28_i32_389 : BitVec 32 := 28#32
  let v492 : BitVec 32 := Scalar.addi v2 c28_i32_389
  let c32_i32_390 : BitVec 32 := 32#32
  let v493 : BitVec 32 := Scalar.remsi v492 c32_i32_390
  let c1_i32_394 : BitVec 32 := 1#32
  let v496 : BitVec 32 := Scalar.muli v493 c1_i32_394
  let v497 : BitVec 32 := Scalar.addi c0_i32_395 v496
  v497.toNat
def k0_dev60 (d0 : Dev nD) : Nat :=
  let c0_i32_404 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c29_i32_398 : BitVec 32 := 29#32
  let v504 : BitVec 32 := Scalar.addi v2 c29_i32_398
  let c32_i32_399 : BitVec 32 := 32#32
  let v505 : BitVec 32 := Scalar.remsi v504 c32_i32_399
  let c1_i32_403 : BitVec 32 := 1#32
  let v508 : BitVec 32 := Scalar.muli v505 c1_i32_403
  let v509 : BitVec 32 := Scalar.addi c0_i32_404 v508
  v509.toNat
def k0_dev61 (d0 : Dev nD) : Nat :=
  let c0_i32_413 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c30_i32_407 : BitVec 32 := 30#32
  let v516 : BitVec 32 := Scalar.addi v2 c30_i32_407
  let c32_i32_408 : BitVec 32 := 32#32
  let v517 : BitVec 32 := Scalar.remsi v516 c32_i32_408
  let c1_i32_412 : BitVec 32 := 1#32
  let v520 : BitVec 32 := Scalar.muli v517 c1_i32_412
  let v521 : BitVec 32 := Scalar.addi c0_i32_413 v520
  v521.toNat
def k0_dev62 (d0 : Dev nD) : Nat :=
  let c0_i32_422 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let c31_i32_416 : BitVec 32 := 31#32
  let v528 : BitVec 32 := Scalar.addi v2 c31_i32_416
  let c32_i32_417 : BitVec 32 := 32#32
  let v529 : BitVec 32 := Scalar.remsi v528 c32_i32_417
  let c1_i32_421 : BitVec 32 := 1#32
  let v532 : BitVec 32 := Scalar.muli v529 c1_i32_421
  let v533 : BitVec 32 := Scalar.addi c0_i32_422 v532
  v533.toNat
def k0_off6 (d0 : Dev nD) (c1_i32_425 : BitVec 32) : Fin 1 → Nat :=
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v540 : BitVec 32 := Scalar.addi v2 c1_i32_425
  let c32_i32_426 : BitVec 32 := 32#32
  let v541 : BitVec 32 := Scalar.remsi v540 c32_i32_426
  ![v541.toNat]
def k0_off7 (d0 : Dev nD) (c1_i32_425 : BitVec 32) : Fin 2 → Nat :=
  let c0_i32_432 : BitVec 32 := 0#32
  let v0 : BitVec 32 := Dev.word d0
  let c1_i32 : BitVec 32 := 1#32
  let v1 : BitVec 32 := Scalar.divsi v0 c1_i32
  let c32_i32 : BitVec 32 := 32#32
  let v2 : BitVec 32 := Scalar.remsi v1 c32_i32
  let v540 : BitVec 32 := Scalar.addi v2 c1_i32_425
  let c32_i32_426 : BitVec 32 := 32#32
  let v541 : BitVec 32 := Scalar.remsi v540 c32_i32_426
  let c128_i32_428 : BitVec 32 := 128#32
  let v543 : BitVec 32 := Scalar.muli v541 c128_i32_428
  ![0, v543.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S4096x128 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S4096x512 .fp8e5m2 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S4096x4096 : Shape := ⟨2, ![4096, 4096]⟩
abbrev S4096x8192 : Shape := ⟨2, ![4096, 8192]⟩
abbrev S1 : Shape := ⟨1, ![1]⟩

abbrev nBuf : Space → Nat
  | .hbm => 5
  | .vmem => 3
  | .smem => 2
  | _ => 0

abbrev bufTy : (tb : Table) → Fin (tcTables nBuf tb) → BufTy
  | .hbm, ⟨0, _⟩ => ⟨S4096x4096, .fp8e5m2⟩
  | .hbm, ⟨1, _⟩ => ⟨S4096x8192, .fp8e5m2⟩
  | .hbm, ⟨2, _⟩ => ⟨S1, .f32⟩
  | .hbm, ⟨3, _⟩ => ⟨S1, .f32⟩
  | .hbm, ⟨4, _⟩ => ⟨S4096x8192, .f32⟩
  | .local _ .vmem, ⟨0, _⟩ => ⟨S4096x4096, .fp8e5m2⟩
  | .local _ .vmem, ⟨1, _⟩ => ⟨S4096x8192, .fp8e5m2⟩
  | .local _ .vmem, ⟨2, _⟩ => ⟨S4096x8192, .f32⟩
  | .local _ .smem, ⟨0, _⟩ => ⟨S1, .f32⟩
  | .local _ .smem, ⟨1, _⟩ => ⟨S1, .f32⟩
  | _, _ => ⟨S4096x4096, .fp8e5m2⟩

abbrev bufScoped : (cs : CoreSpace) → Fin (nBuf (.core cs)) → Bool
  | .vmem, ⟨0, _⟩ => true
  | .vmem, ⟨1, _⟩ => true
  | .vmem, ⟨2, _⟩ => true
  | .smem, ⟨0, _⟩ => true
  | .smem, ⟨1, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg4_0 : Ref sig .tc := ⟨.vmem, 2, rfl⟩
abbrev cc0_stg2_0 : Ref sig .tc := ⟨.smem, 0, rfl⟩
abbrev cc0_stg3_0 : Ref sig .tc := ⟨.smem, 1, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := .none

abbrev stage0_0 : Fin 1 → Memref sig .tc .vmem S4096x4096 .fp8e5m2 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S4096x8192 .fp8e5m2 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .smem S1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .smem S1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
-- ==== Proof.Pure.lean ====
/-
What a tile and the reference's block hold over the extended reals: the product's sum, scaled, times its logistic value.
-/
module

public import proofs.«01_k».proof.Proof.Gen.KernelIdeal.Skeleton
public import proofs.«01_k».proof.Proof.Gen.ReferenceIdeal.Skeleton
public import Idealize.ShloMosaic.Lib.Pointwise
public import Idealize.ShloMosaic.Lib.IdealHost

@[expose] public section

noncomputable section

namespace Cert.A2A

open Idealize.ShloMosaic

/-- `exp (-(y clipped to [-60, 60]))`, the two bounds as the programs write them. -/
def decay (y : EReal) : EReal :=
  Ideal.exp (0 - min (Ideal.ofBits .f32 0x42700000#32) (max (Ideal.ofBits .f32 0xC2700000#32) y))
/-- The scaled product `y` over one plus that. -/
def gate (y : EReal) : EReal := Ideal.div y (1 + decay y)

theorem exp_nonneg (x : EReal) : 0 ≤ Ideal.exp x := by
  induction x with
  | bot => rw [Ideal.exp_bot]
  | top => rw [Ideal.exp_top]; exact le_top
  | coe r => rw [Ideal.exp_coe]; exact EReal.coe_nonneg.mpr (Real.exp_pos r).le
theorem one_add_decay (y : EReal) : 1 + decay y ≠ 0 := fun h => by
  have h1 : (1 : EReal) ≤ 1 + decay y := le_add_of_nonneg_right (exp_nonneg _)
  rw [h] at h1
  exact absurd h1 (by simp)
/-- The product with the reciprocal is the quotient: the divisor is at least one. -/
theorem gate_mul (y : EReal) : y * Ideal.div 1 (1 + decay y) = gate y := Ideal.mul_one_div (one_add_decay y)

/-- The kernel's tile at an index. -/
theorem tile_at (w : Vec Ideal Cert.KernelIdeal.S4096x512 .fp8e5m2) (x : Vec Ideal Cert.KernelIdeal.S128x4096 .fp8e5m2) (a b : Ideal .f32)
    (r : Fin 128) (n : Fin 512) :
    Cert.KernelIdeal.Gen.k0_pay1 (F := Ideal) w x a b (ix2 r n) = gate ((∑ k : Fin 4096, x (ix2 r k) * w (ix2 k n)) * (a * b)) := by
  rw [← gate_mul]
  unfold decay
  pointwise [Cert.KernelIdeal.Gen.k0_pay1]

/-- The reference's array at an index. -/
theorem whole_at (x : Vec Ideal Cert.ReferenceIdeal.S4096x4096 .fp8e5m2) (w : Vec Ideal Cert.ReferenceIdeal.S4096x8192 .fp8e5m2) (a b : Ideal .f32)
    (r : Fin 4096) (n : Fin 8192) :
    Cert.ReferenceIdeal.Gen.k0_pay1 (F := Ideal) x w a b (ix2 r n) = gate ((∑ k : Fin 4096, x (ix2 r k) * w (ix2 k n)) * (a * b)) := by
  unfold gate decay
  pointwise [Cert.ReferenceIdeal.Gen.k0_pay1]

end Cert.A2A

end
-- ==== Proof.Text.lean ====
/-
The body of the kernel as four loops. The printed body is unrolled: thirty-one signals, thirty-one copies,
thirty-one landing waits and thirty-one sending waits, each a line of its own. Here each family is one operation
indexed by `r : Fin 31` (the peer at offset `r + 1`), and the printed body is shown to be these four loops around
the local stores, followed by the tile of the product.
-/
module

public import proofs.«01_k».proof.Proof.Gen.KernelIdeal
public import proofs.«01_k».proof.Proof.Gen.KernelIdeal.Skeleton
public import proofs.«01_k».proof.Proof.Gen.KernelIdeal.Points
public import Idealize.ShloMosaic.Lib.Pipeline.Kit
public import Idealize.ShloMosaic.Lib.Pipeline.Regions

@[expose] public section

set_option synthInstance.maxSize 4096

noncomputable section

namespace Cert.A2A

open Cert.KernelIdeal Cert.KernelIdeal.Gen
open Idealize.ShloMosaic Idealize.ShloMosaic.TcCoe Idealize.SL.Sem

variable {F : FTy → Type} [FloatOps F]

abbrev Pr (F : FTy → Type) (α : Type) : Type 1 := Prog (TpuEff nD τ sig (Elt F) Λ₀ .tc) α

/-- The offsets in the order in which the kernel visits them. -/
def offs : List (Fin 31) :=
  [0, 1, 2, 3, 4, 5, 6, 7, 8, 9, 10, 11, 12, 13, 14, 15, 16, 17, 18, 19, 20, 21, 22, 23, 24, 25, 26, 27, 28, 29, 30]

/-- `f` at every member of `l`, in order, and then `k`. -/
def visit {α : Type} (f : Fin 31 → Pr F PUnit) (k : Pr F α) : List (Fin 31) → Pr F α
  | [] => k
  | r :: l => (f r).bind fun _ => visit f k l

/-- The kernel's two semaphore arrays and its barrier semaphore. -/
abbrev barS : Sem sig := (SemArray.scalar (sig.barrier 0 rfl) : Sems sig S_).sem

abbrev xM : Memref sig .tc .vmem S4096x128 .fp8e5m2 := Memref.whole cc0_stg0_0
abbrev xsM : Memref sig .tc .vmem S4096x128 .fp8e5m2 := Memref.whole cc0_scratch0
abbrev xtM : Memref sig .tc .vmem S128x4096 .fp8e5m2 := Memref.whole cc0_scratch1

/-- The devices named by the signals, offset by offset. -/
def sigDev (c : Dev nD) (r : Fin 31) : ℕ :=
  ![k0_dev1 c, k0_dev2 c, k0_dev3 c, k0_dev4 c, k0_dev5 c, k0_dev6 c, k0_dev7 c, k0_dev8 c, k0_dev9 c, k0_dev10 c, k0_dev11 c, k0_dev12 c, k0_dev13 c, k0_dev14 c, k0_dev15 c, k0_dev16 c, k0_dev17 c, k0_dev18 c, k0_dev19 c, k0_dev20 c, k0_dev21 c, k0_dev22 c, k0_dev23 c, k0_dev24 c, k0_dev25 c, k0_dev26 c, k0_dev27 c, k0_dev28 c, k0_dev29 c, k0_dev30 c, k0_dev31 c] r
/-- The devices named by the copies, offset by offset. -/
def copyDev (c : Dev nD) (r : Fin 31) : ℕ :=
  ![k0_dev32 c, k0_dev33 c, k0_dev34 c, k0_dev35 c, k0_dev36 c, k0_dev37 c, k0_dev38 c, k0_dev39 c, k0_dev40 c, k0_dev41 c, k0_dev42 c, k0_dev43 c, k0_dev44 c, k0_dev45 c, k0_dev46 c, k0_dev47 c, k0_dev48 c, k0_dev49 c, k0_dev50 c, k0_dev51 c, k0_dev52 c, k0_dev53 c, k0_dev54 c, k0_dev55 c, k0_dev56 c, k0_dev57 c, k0_dev58 c, k0_dev59 c, k0_dev60 c, k0_dev61 c, k0_dev62 c] r

theorem sigDev_eq (c : Dev nD) (r : Fin 31) : sigDev c r = (c.val + (r.val + 1)) % 32 := by
  revert c r; decide +kernel
theorem copyDev_eq (c : Dev nD) (r : Fin 31) : copyDev c r = (c.val + (r.val + 1)) % 32 := by
  revert c r; decide +kernel
theorem sigDev_lt (c : Dev nD) (r : Fin 31) : sigDev c r < nD := by
  rw [sigDev_eq]; exact Nat.mod_lt _ (by decide)
theorem copyDev_lt (c : Dev nD) (r : Fin 31) : copyDev c r < nD := by
  rw [copyDev_eq]; exact Nat.mod_lt _ (by decide)

theorem inb_sem (r : Fin 31) : ∀ a, (![r.val + 1] : Fin 1 → ℕ) a + S1.size a ≤ S32.size a := by
  revert r; decide

/-- The semaphore of the copy at offset `r + 1`. -/
abbrev sendS (r : Fin 31) : DmaSem sig :=
  (((cc0_scratch2 : DmaSems sig S32).slice (Rect.unit (s := S32) ![r.val + 1] S1.size (inb_sem r))).squeeze S_ squeezes_S1_S_).sem

section Ops
variable (i : grid0.Coords) (c : Dev nD) (h : k0_cond1 i = 1#1)

/-- The semaphore on which `c`'s copies land at its peers. -/
abbrev landS : DmaSem sig :=
  (((cc0_scratch3 : DmaSems sig S32).slice (Rect.unit (s := S32) (k0_off3 c) S1.size (k0_off3_inb i c h))).squeeze S_ squeezes_S1_S_).sem
/-- The semaphore on which the copy of the peer at offset `r + 1` lands at `c`. -/
abbrev recvS (r : Fin 31) : DmaSem sig :=
  (((cc0_scratch3 : DmaSems sig S32).slice (Rect.unit (s := S32) (k0_off6 c (BitVec.ofNat 32 (1 + r.val))) S1.size (k0_off6_inb i c h r))).squeeze S_ squeezes_S1_S_).sem

/-- The rows of `xs` that go to the peer at offset `r + 1`. -/
abbrev srcM (r : Fin 31) : Memref sig .tc .vmem S128x128 .fp8e5m2 :=
  xsM.slice (Rect.unit (s := S4096x128) (k0_off5 c (BitVec.ofNat 32 (1 + r.val))) S128x128.size (k0_off5_inb i c h r)) (fun _ => rfl)
/-- The columns of `xt` that `c` fills, at itself and at its peers. -/
abbrev dstM : Memref sig .tc .vmem S128x128 .fp8e5m2 :=
  xtM.slice (Rect.unit (s := S128x4096) (k0_off4 c) S128x128.size (k0_off4_inb i c h)) (fun _ => rfl)
/-- The columns of `xt` that the peer at offset `r + 1` fills. -/
abbrev landM (r : Fin 31) : Memref sig .tc .vmem S128x128 .fp8e5m2 :=
  xtM.slice (Rect.unit (s := S128x4096) (k0_off7 c (BitVec.ofNat 32 (1 + r.val))) S128x128.size (k0_off7_inb i c h r)) (fun _ => rfl)

theorem srcM_words (r : Fin 31) : (srcM i c h r).view.WordExact :=
  (Memref.isWhole_whole cc0_scratch0).wordExact_slice rfl _ (k0_off5_wordsfp8e5m2 i c h r)
theorem dstM_words : (dstM i c h).view.WordExact :=
  (Memref.isWhole_whole cc0_scratch1).wordExact_slice rfl _ (k0_off4_wordsfp8e5m2 i c h)
theorem landM_words (r : Fin 31) : (landM i c h r).view.WordExact :=
  (Memref.isWhole_whole cc0_scratch1).wordExact_slice rfl _ (k0_off7_wordsfp8e5m2 i c h r)

def sigOp (r : Fin 31) : Pr F PUnit :=
  semSignalWord (⟨sigDev c r, sigDev_lt c r⟩ : Dev nD) barS 1#32
def copyOp (r : Fin 31) : Pr F PUnit :=
  Prog.lift (.enqueueDma (srcM i c h r) (.remote (Dev.tc (⟨copyDev c r, copyDev_lt c r⟩ : Dev nD)) (dstM i c h) (.dma (sendS r)))
    (.dma (landS i c h)) (srcM_words i c h r) (dstM_words i c h) ⟨⟨rfl, Or.inl rfl⟩, trivial⟩)
def landOp (r : Fin 31) : Pr F PUnit :=
  Prog.lift (.waitDma2 (recvS i c h r) (srcM i c h r) (landM i c h r) (srcM_words i c h r) (landM_words i c h r))
def backOp (r : Fin 31) : Pr F PUnit :=
  Prog.lift (.waitDma2 (sendS r) (dstM i c h) (srcM i c h r) (dstM_words i c h) (srcM_words i c h r))

/-- Between the handshake and the copies: `x` into `xs`, and `c`'s own block into its place in `xt`. -/
def localOps : Pr F PUnit := do
  let v155 : Vec F S4096x128 .fp8e5m2 ← Prog.lift (.load xM (Rect.unit (s := S4096x128) ![0, 0] S4096x128.size inb_S4096x128_S4096x128_0_0).toLoadRect (View.loadsAt_vmem h_S4096x128))
  let v157 : Vec F S4096x128 .fp8e5m2 ← Prog.lift (.load xsM (Rect.unit (s := S4096x128) ![0, 0] S4096x128.size inb_S4096x128_S4096x128_0_0).toLoadRect (View.loadsAt_vmem h_S4096x128))
  Prog.lift (.store xsM (Rect.unit (s := S4096x128) ![0, 0] S4096x128.size inb_S4096x128_S4096x128_0_0) (k0_pay2 v155) Finset.univ (View.stores_vmem h_S4096x128 ((Memref.isWhole_whole cc0_scratch0).storeExact_slice rfl _ packedfp8e5m2_S4096x128_S4096x128_0_0) (fun _ => rfl)) (.inl rfl))
  let v162 : Vec F S128x128 .fp8e5m2 ← Prog.lift (.load xsM (Rect.unit (s := S4096x128) (k0_off1 c) S128x128.size (k0_off1_inb i c h)).toLoadRect (View.loadsAt_vmem h_S128x128))
  let v165 : Vec F S128x128 .fp8e5m2 ← Prog.lift (.load xtM (Rect.unit (s := S128x4096) (k0_off2 c) S128x128.size (k0_off2_inb i c h)).toLoadRect (View.loadsAt_vmem h_S128x128))
  Prog.lift (.store xtM (Rect.unit (s := S128x4096) (k0_off2 c) S128x128.size (k0_off2_inb i c h)) (k0_pay3 v162) Finset.univ (View.stores_vmem h_S128x128 ((Memref.isWhole_whole cc0_scratch1).storeExact_slice rfl _ (k0_off2_packedfp8e5m2 i c h)) (fun _ => rfl)) (.inl rfl))

/-- The exchange, at the first grid point, before `k`. -/
def exchange (k : Pr F PUnit) : Pr F PUnit :=
  visit (sigOp c) ((semWaitWord barS 31#32).bind fun _ => (localOps i c h).bind fun _ =>
    visit (copyOp i c h) (visit (landOp i c h) (visit (backOp i c h) k offs) offs) offs) offs

end Ops

/-- A tile of the result, at every grid point. -/
def tile (arg2 : Memref sig .tc .vmem S4096x512 .fp8e5m2) (arg3 arg4 : Memref sig .tc .smem S1 .f32) (arg5 : Memref sig .tc .vmem S128x512 .f32) :
    Pr F PUnit := do
  let v6 : Vec F S4096x512 .fp8e5m2 ← Prog.lift (.load arg2 (Rect.unit (s := S4096x512) ![0, 0] S4096x512.size inb_S4096x512_S4096x512_0_0).toLoadRect (View.loadsAt_vmem h_S4096x512))
  let v9 : Vec F S128x4096 .fp8e5m2 ← Prog.lift (.load xtM (Rect.unit (s := S128x4096) ![0, 0] S128x4096.size inb_S128x4096_S128x4096_0_0).toLoadRect (View.loadsAt_vmem h_S128x4096))
  let v12 : Elt F .f32 ← smemLoad arg3 (Rect.unit (s := S1) ![0] S1.size inb_S1_S1_0) numel1_S1 rfl
  let v13 : Elt F .f32 ← smemLoad arg4 (Rect.unit (s := S1) ![0] S1.size inb_S1_S1_0) numel1_S1 rfl
  let v29 : Vec F S128x512 .f32 ← Prog.lift (.load arg5 (Rect.unit (s := S128x512) ![0, 0] S128x512.size inb_S128x512_S128x512_0_0).toLoadRect (View.loadsAt_vmem h_S128x512))
  Prog.lift (.store arg5 (Rect.unit (s := S128x512) ![0, 0] S128x512.size inb_S128x512_S128x512_0_0) (k0_pay1 v6 v9 v12 v13) Finset.univ (View.stores_vmem_bits_univ h_S128x512 rfl) (.inl rfl))

set_option maxRecDepth 65536 in
/-- The printed body is the exchange at the first point, then the tile. -/
theorem body_eq (i : grid0.Coords) (arg2 : Memref sig .tc .vmem S4096x512 .fp8e5m2) (harg2 : arg2.IsWhole)
    (arg3 : Memref sig .tc .smem S1 .f32) (harg3 : arg3.IsWhole) (arg4 : Memref sig .tc .smem S1 .f32) (harg4 : arg4.IsWhole)
    (arg5 : Memref sig .tc .vmem S128x512 .f32) (harg5 : arg5.IsWhole) :
    cc0_body (F := F) i xM (Memref.isWhole_whole _) arg2 harg2 arg3 harg3 arg4 harg4 arg5 harg5
        xsM (Memref.isWhole_whole _) xtM (Memref.isWhole_whole _) cc0_scratch2 cc0_scratch3
      = .op .deviceId fun d0 =>
          if h : k0_cond1 i = 1#1 then exchange i d0 h (tile arg2 arg3 arg4 arg5) else tile arg2 arg3 arg4 arg5 := by
  chain_rfl

end Cert.A2A

end
-- ==== Proof.Cells.lean ====
/-
The devices, semaphores, rows and columns of the exchange, and what the gathered buffer holds.

Device `c` keeps a copy of its block of `x` (4096 rows, 128 columns) in `xs`; the 128 rows at `128 * d` of it go to
device `d`, which puts them at the columns at `128 * c` of its own `xt` (128 rows, 4096 columns). So in the end the
columns at `128 * j` of `d`'s `xt` are the rows at `128 * d` of `j`'s block: `gathered`.
-/
module

public import proofs.«01_k».proof.Proof.Text
public import Idealize.ShloMosaic.Lib.Pipeline.Value
public import Idealize.ShloMosaic.Lib.Pipeline.ValueKit.Geometry

@[expose] public section

set_option synthInstance.maxSize 4096

noncomputable section

namespace Cert.A2A

open Cert.KernelIdeal Cert.KernelIdeal.Gen
open Idealize.ShloMosaic Idealize.ShloMosaic.TcCoe Idealize.SL.Sem

variable {F : FTy → Type} [FloatOps F]

/-! ## Devices -/

/-- The device `r + 1` places after `c`. -/
def pe (c : Dev nD) (r : Fin 31) : Dev nD := ⟨(c.val + (r.val + 1)) % 32, Nat.mod_lt _ (by decide)⟩

theorem pe_val (c : Dev nD) (r : Fin 31) : (pe c r).val = (c.val + (r.val + 1)) % 32 := rfl
theorem pe_pe (c : Dev nD) (r : Fin 31) : pe (pe c r) r.rev = c :=
  Fin.ext (by
    have hc : c.val < 32 := c.isLt
    have hr := r.isLt
    rw [pe_val, pe_val, Fin.val_rev]; omega)
theorem pe_ne (c : Dev nD) (r : Fin 31) : pe c r ≠ c := fun h => by
  have hv := congrArg Fin.val h
  rw [pe_val] at hv
  have hc : c.val < 32 := c.isLt
  have hr := r.isLt
  omega
theorem pe_inj (c : Dev nD) : Function.Injective (pe c) := fun r r' h => Fin.ext (by
  have hv := congrArg Fin.val h
  rw [pe_val, pe_val] at hv
  have hc : c.val < 32 := c.isLt
  have hr := r.isLt
  have hr' := r'.isLt
  omega)
/-- Every other device is one of these. -/
theorem exists_pe {c j : Dev nD} (h : j ≠ c) : ∃ r, pe c r = j := by
  have hc : c.val < 32 := c.isLt
  have hj : j.val < 32 := j.isLt
  have hn : j.val ≠ c.val := fun e => h (Fin.ext e)
  refine ⟨⟨(j.val + 31 - c.val) % 32, by omega⟩, Fin.ext ?_⟩
  rw [pe_val]; dsimp only; omega
theorem others (c : Dev nD) : (Finset.univ.erase c : Finset (Dev nD)) = Finset.univ.map ⟨pe c, pe_inj c⟩ := by
  ext j
  rw [Finset.mem_erase, Finset.mem_map]
  refine ⟨fun h => ?_, fun ⟨r, _, h⟩ => ⟨h ▸ pe_ne c r, Finset.mem_univ _⟩⟩
  obtain ⟨r, hr⟩ := exists_pe h.1
  exact ⟨r, Finset.mem_univ _, hr⟩

/-- A device and an offset, seen from the other end. -/
def turn : Dev nD × Fin 31 ≃ Dev nD × Fin 31 where
  toFun p := (pe p.1 p.2, p.2.rev)
  invFun p := (pe p.1 p.2, p.2.rev)
  left_inv p := by dsimp only; rw [pe_pe, Fin.rev_rev]
  right_inv p := by dsimp only; rw [pe_pe, Fin.rev_rev]

theorem offs_nodup : offs.Nodup := by decide
theorem mem_offs (r : Fin 31) : r ∈ offs := by revert r; decide

/-! ## Semaphores -/

theorem sem_inb (k : Fin 32) : ∀ a, (![k.val] : Fin 1 → ℕ) a + S1.size a ≤ S32.size a := by
  revert k; decide
/-- Of the sending semaphores the one at `k`, of the landing semaphores the one for device `j`. -/
abbrev sS (k : Fin 32) : DmaSem sig :=
  (((cc0_scratch2 : DmaSems sig S32).slice (Rect.unit (s := S32) ![k.val] S1.size (sem_inb k))).squeeze S_ squeezes_S1_S_).sem
abbrev rS (j : Fin 32) : DmaSem sig :=
  (((cc0_scratch3 : DmaSems sig S32).slice (Rect.unit (s := S32) ![j.val] S1.size (sem_inb j))).squeeze S_ squeezes_S1_S_).sem

theorem sS_inj : Function.Injective sS := by decide +kernel
theorem rS_inj : Function.Injective rS := by decide +kernel
theorem sS_ne_rS : ∀ k j, sS k ≠ rS j := by decide +kernel

/-- The semaphores of the exchange: the barrier, those of the sending and those of the landing side. -/
abbrev CK : Type := Option (Bool × Fin 32)
abbrev osem : Bool × Fin 32 → SemLoc sig := fun | (true, k) => .dma (rS k) | (false, k) => .dma (sS k)
abbrev csem : CK → SemLoc sig := fun | none => .reg barS | some p => osem p

theorem dma_inj {a b : DmaSem sig} (h : (SemLoc.dma a : SemLoc sig) = .dma b) : a = b := SemLoc.dma.inj h
theorem osem_inj : Function.Injective osem := by
  rintro ⟨b, k⟩ ⟨b', k'⟩ h
  cases b <;> cases b'
  · rw [sS_inj (dma_inj h)]
  · exact absurd (dma_inj h) (sS_ne_rS _ _)
  · exact absurd (dma_inj h).symm (sS_ne_rS _ _)
  · rw [rS_inj (dma_inj h)]
theorem osem_ne_bar (p : Bool × Fin 32) : osem p ≠ .reg barS := by
  obtain ⟨b, k⟩ := p; cases b <;> (intro h; cases h)
theorem csem_inj : Function.Injective csem := by
  intro a b h
  rcases a with _ | a <;> rcases b with _ | b
  · rfl
  · exact absurd h.symm (osem_ne_bar b)
  · exact absurd h (osem_ne_bar a)
  · exact congrArg some (osem_inj h)

abbrev kcell (p : Dev nD × CK) : GSem nD τ sig := ((p.1 : Thread nD τ), csem p.2)
abbrev barCell (c : Dev nD) : GSem nD τ sig := kcell (c, none)
abbrev sendCell (c : Dev nD) (k : Fin 32) : GSem nD τ sig := kcell (c, some (false, k))
abbrev recvCell (c : Dev nD) (j : Fin 32) : GSem nD τ sig := kcell (c, some (true, j))

theorem kcell_inj : Function.Injective kcell := by
  rintro ⟨c, k⟩ ⟨c', k'⟩ h
  have h1 : c = c' := congrArg (fun g : GSem nD τ sig => g.1.1) h
  have h2 : k = k' := csem_inj (congrArg Prod.snd h)
  rw [h1, h2]

/-! ## Rows and columns -/

theorem row_inb (j : Dev nD) : ∀ a, (![128 * j.val, 0] : Fin 2 → ℕ) a + S128x128.size a ≤ S4096x128.size a := by
  revert j; decide
theorem col_inb (j : Dev nD) : ∀ a, (![0, 128 * j.val] : Fin 2 → ℕ) a + S128x128.size a ≤ S128x4096.size a := by
  revert j; decide
abbrev rowR (j : Dev nD) : Rect S4096x128 := Rect.unit (s := S4096x128) ![128 * j.val, 0] S128x128.size (row_inb j)
abbrev colR (j : Dev nD) : Rect S128x4096 := Rect.unit (s := S128x4096) ![0, 128 * j.val] S128x128.size (col_inb j)
abbrev rowM (j : Dev nD) : Memref sig .tc .vmem S128x128 .fp8e5m2 := xsM.slice (rowR j) (fun _ => rfl)
abbrev colM (j : Dev nD) : Memref sig .tc .vmem S128x128 .fp8e5m2 := xtM.slice (colR j) (fun _ => rfl)

abbrev NN : ℕ := (colM 0).view.dmaCredit
theorem NN_pos : 0 < NN := View.dmaCredit_pos _ (by decide)
theorem credit_col (j : Dev nD) : (colM j).view.dmaCredit = NN := rfl
theorem credit_row (j : Dev nD) : (rowM j).view.dmaCredit = NN := rfl

section Ops
variable (i : grid0.Coords) (c : Dev nD) (h : k0_cond1 i = 1#1) (r : Fin 31)

theorem peer_eq (r : Fin 31) : (c.val + r.val + 1) % 32 = (pe c r).val := by rw [pe_val, Nat.add_assoc]
theorem sigDev_pe : (⟨sigDev c r, sigDev_lt c r⟩ : Dev nD) = pe c r := Fin.ext (sigDev_eq c r)
theorem copyDev_pe : (⟨copyDev c r, copyDev_lt c r⟩ : Dev nD) = pe c r := Fin.ext (copyDev_eq c r)
theorem srcM_eq : srcM i c h r = rowM (pe c r) :=
  Memref.slice_unit_congr xsM ((k0_off5_eq c r).trans (by rw [peer_eq])) _ _ _ _
theorem dstM_eq : dstM i c h = colM c := Memref.slice_unit_congr xtM (k0_off4_eq c) _ _ _ _
theorem landM_eq : landM i c h r = colM (pe c r) :=
  Memref.slice_unit_congr xtM ((k0_off7_eq c r).trans (by rw [peer_eq])) _ _ _ _
theorem landS_eq : landS i c h = rS c := by
  unfold landS; rw [SemArray.slice_unit_congr cc0_scratch3 (k0_off3_eq c) _ (sem_inb c)]
theorem recvS_eq : recvS i c h r = rS (pe c r) := by
  unfold recvS; rw [SemArray.slice_unit_congr cc0_scratch3 ((k0_off6_eq c r).trans (by rw [peer_eq])) _ (sem_inb (pe c r))]
theorem sendS_eq : sendS r = sS r.succ := rfl

end Ops

/-! ## Contents -/

abbrev XsT (F : FTy → Type) : Type := (cc0_scratch0 : Ref sig .tc).ty.Contents (Elt F)
abbrev XtT (F : FTy → Type) : Type := (cc0_scratch1 : Ref sig .tc).ty.Contents (Elt F)

/-- The index of `xs` that goes to index `y` of device `c`'s `xt`: of the block of the device at `y`'s columns. -/
def owner (y : S128x4096.Idx) : Dev nD := ⟨(y 1).val / 128, Nat.div_lt_of_lt_mul (y 1).isLt⟩
def place (c : Dev nD) (y : S128x4096.Idx) : S4096x128.Idx := fun a => match a with
  | ⟨0, _⟩ => ⟨128 * c.val + (y 0).val, by
      have h0 : (y 0).val < 128 := (y 0).isLt
      have hc : c.val < 32 := c.isLt
      show 128 * c.val + (y 0).val < 4096; omega⟩
  | ⟨1, _⟩ => ⟨(y 1).val % 128, Nat.mod_lt _ (by decide)⟩

/-- What device `c` has gathered, from each device's block `X`. -/
def gathered (X : Dev nD → XsT F) (c : Dev nD) : XtT F := fun y => X (owner y) (place c y)

theorem colR_emb_val (j : Dev nD) (y : S128x128.Idx) (a : Fin 2) :
    (((colM j).view.emb y a : Fin _) : ℕ) = (![0, 128 * j.val] : Fin 2 → ℕ) a + (y a).val :=
  ValueKit.rect_emb_unit_val (s := S128x4096) ![0, 128 * j.val] S128x128.size (col_inb j) y a
theorem rowR_emb_val (j : Dev nD) (y : S128x128.Idx) (a : Fin 2) :
    (((rowM j).view.emb y a : Fin _) : ℕ) = (![128 * j.val, 0] : Fin 2 → ℕ) a + (y a).val :=
  ValueKit.rect_emb_unit_val (s := S4096x128) ![128 * j.val, 0] S128x128.size (row_inb j) y a

theorem owner_col (j : Dev nD) (y : S128x128.Idx) : owner ((colM j).view.emb y) = j := by
  refine Fin.ext ?_
  show ((colM j).view.emb y 1).val / 128 = j.val
  rw [colR_emb_val j y 1]
  have hy : (y 1).val < 128 := (y 1).isLt
  show (128 * j.val + (y 1).val) / 128 = j.val
  omega
theorem place_col (c j : Dev nD) (y : S128x128.Idx) : place c ((colM j).view.emb y) = (rowM c).view.emb y := by
  refine funext fun a => Fin.ext ?_
  rw [rowR_emb_val c y a]
  match a with
  | ⟨0, _⟩ =>
    show 128 * c.val + ((colM j).view.emb y 0).val = 128 * c.val + (y 0).val
    rw [colR_emb_val j y 0]; show 128 * c.val + (0 + (y 0).val) = _; omega
  | ⟨1, _⟩ =>
    show ((colM j).view.emb y 1).val % 128 = 0 + (y 1).val
    rw [colR_emb_val j y 1]
    have hy : (y 1).val < 128 := (y 1).isLt
    show (128 * j.val + (y 1).val) % 128 = _
    omega

/-- The rows for `c` of `j`'s block, written to `j`'s columns of `c`'s buffer, are what `c` gathers there. -/
theorem landed_eq (X : Dev nD → XsT F) (c j : Dev nD) (f : XtT F) :
    ∀ i ∈ (colM j).view.set, (colM j).view.write (Elt F) f ((rowM c).view.read (Elt F) (X j)) Finset.univ i = gathered X c i := by
  intro i hi
  obtain ⟨y, rfl⟩ := View.exists_emb_of_mem_set _ hi
  rw [View.write_emb_of_mem _ _ (Finset.mem_univ y), View.read_apply]
  unfold gathered
  rw [owner_col, place_col]
  rfl

/-! ### The rows cover `xs`, the columns `xt` -/

abbrev rowSet (j : Dev nD) : Finset (cc0_scratch0 : Ref sig .tc).ty.Idx := (rowM j).view.set
abbrev colSet (j : Dev nD) : Finset (cc0_scratch1 : Ref sig .tc).ty.Idx := (colM j).view.set

theorem rows_disjoint (j j' : Dev nD) (h : j ≠ j') : Disjoint (rowM j).view.set (rowM j').view.set := by
  rw [Finset.disjoint_left]
  intro i hi hi'
  obtain ⟨y, rfl⟩ := View.exists_emb_of_mem_set _ hi
  obtain ⟨y', hy'⟩ := View.exists_emb_of_mem_set _ hi'
  have e := congrArg (fun z : S4096x128.Idx => (z 0).val) hy'
  simp only [] at e
  rw [rowR_emb_val j y 0, rowR_emb_val j' y' 0] at e
  have h0 : (y 0).val < 128 := (y 0).isLt
  have h0' : (y' 0).val < 128 := (y' 0).isLt
  refine h (Fin.ext ?_)
  have e' : 128 * j'.val + (y' 0).val = 128 * j.val + (y 0).val := e
  omega
theorem cols_disjoint (j j' : Dev nD) (h : j ≠ j') : Disjoint (colM j).view.set (colM j').view.set := by
  rw [Finset.disjoint_left]
  intro i hi hi'
  obtain ⟨y, rfl⟩ := View.exists_emb_of_mem_set _ hi
  obtain ⟨y', hy'⟩ := View.exists_emb_of_mem_set _ hi'
  have e := congrArg (fun z : S128x4096.Idx => (z 1).val) hy'
  simp only [] at e
  rw [colR_emb_val j y 1, colR_emb_val j' y' 1] at e
  have h0 : (y 1).val < 128 := (y 1).isLt
  have h0' : (y' 1).val < 128 := (y' 1).isLt
  refine h (Fin.ext ?_)
  have e' : 128 * j'.val + (y' 1).val = 128 * j.val + (y 1).val := e
  omega

theorem rows_cover : (Finset.univ : Finset (Dev nD)).biUnion rowSet = Finset.univ := by
  refine Finset.eq_univ_of_forall fun i => Finset.mem_biUnion.mpr ?_
  have h0 : (i 0).val < 4096 := (i 0).isLt
  refine ⟨⟨(i 0).val / 128, by show _ < 32; omega⟩, Finset.mem_univ _, ?_⟩
  have hm := View.emb_mem_set (rowM ⟨(i 0).val / 128, by show _ < 32; omega⟩).view
    (fun a => match a with | ⟨0, _⟩ => ⟨(i 0).val % 128, Nat.mod_lt _ (by decide)⟩ | ⟨1, _⟩ => ⟨(i 1).val, (i 1).isLt⟩ : S128x128.Idx)
  convert hm using 1
  refine funext fun a => Fin.ext ?_
  rw [rowR_emb_val]
  match a with
  | ⟨0, _⟩ => show (i 0).val = 128 * ((i 0).val / 128) + (i 0).val % 128; omega
  | ⟨1, _⟩ => show (i 1).val = 0 + (i 1).val; omega
theorem cols_cover : (Finset.univ : Finset (Dev nD)).biUnion colSet = Finset.univ := by
  refine Finset.eq_univ_of_forall fun i => Finset.mem_biUnion.mpr ?_
  have h0 : (i 1).val < 4096 := (i 1).isLt
  refine ⟨⟨(i 1).val / 128, by show _ < 32; omega⟩, Finset.mem_univ _, ?_⟩
  have hm := View.emb_mem_set (colM ⟨(i 1).val / 128, by show _ < 32; omega⟩).view
    (fun a => match a with | ⟨0, _⟩ => ⟨(i 0).val, (i 0).isLt⟩ | ⟨1, _⟩ => ⟨(i 1).val % 128, Nat.mod_lt _ (by decide)⟩ : S128x128.Idx)
  convert hm using 1
  refine funext fun a => Fin.ext ?_
  rw [colR_emb_val]
  match a with
  | ⟨0, _⟩ => show (i 0).val = 0 + (i 0).val; omega
  | ⟨1, _⟩ => show (i 1).val = 128 * ((i 1).val / 128) + (i 1).val % 128; omega

theorem pay2_eq (v : Vec F S4096x128 .fp8e5m2) : k0_pay2 v = v := by
  unfold k0_pay2; simp only [shapeCast_self]
theorem pay3_eq (v : Vec F S128x128 .fp8e5m2) : k0_pay3 v = v := by
  unfold k0_pay3; simp only [shapeCast_self]

end Cert.A2A

end
-- ==== Proof.Sched.lean ====
/-
The protocol of the exchange, in one round.

A device's barrier is signalled once by each peer, and with the signal comes the peer's right to the columns that this
device fills in it: a copy lands only where its target has said that it has entered. A sending semaphore is signalled
by the device's own copy, and gives back the rows sent; a landing semaphore by the peer's copy, and hands over the
columns filled, at what the device gathers there. The sending semaphore at zero and a device's landing semaphore for
itself are never used.
-/
module

public import proofs.«01_k».proof.Proof.Cells
public import proofs.«01_k».proof.Proof.Gen.KernelIdeal.Launch
public import proofs.«01_k».proof.Proof.Gen.KernelIdeal.Frame
public import Idealize.ShloMosaic.Lib.Pipeline.Launch
public import Idealize.ShloMosaic.Lib.Tactic

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The algebra: the pipeline's part and the exchange's -/

abbrev UB : Type := URounds (GSem nD τ sig) (Fin 31)
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

abbrev 𝒱₀ : Variants := Variants.none

/-! ## Chains over lists -/

/-- `Φ` at every member of the list, one by one. -/
def chain {I : Type} (Φ : I → sProp 𝕄) : List I → sProp 𝕄
  | [] => iprop(emp)
  | r :: l => iprop(Φ r ∗ chain Φ l)

omit [FloatOps F] in
theorem chain_nil {I : Type} (Φ : I → sProp 𝕄) : chain Φ [] = iprop(emp) := rfl
omit [FloatOps F] in
theorem chain_cons {I : Type} (Φ : I → sProp 𝕄) (r : I) (l : List I) : chain Φ (r :: l) = iprop(Φ r ∗ chain Φ l) := rfl
omit [FloatOps F] in
theorem chain_of_list {I : Type} [DecidableEq I] (Φ : I → sProp 𝕄) :
    ∀ l : List I, l.Nodup → bigSep l.toFinset Φ = chain Φ l
  | [], _ => bigSep_empty
  | r :: l, h => by
    rw [List.toFinset_cons, bigSep_insert (by rw [List.mem_toFinset]; exact (List.nodup_cons.mp h).1), chain_of_list Φ l (List.nodup_cons.mp h).2]
    rfl
omit [FloatOps F] in
theorem chain_offs (Φ : Fin 31 → sProp 𝕄) : bigSep Finset.univ Φ = chain Φ offs := by
  rw [← chain_of_list Φ offs offs_nodup]
  congr 1

/-! ## What is handed over -/

/-- The rows for `j` of `c`'s `xs`, the columns for `j` of `c`'s `xt`. -/
def rowsAt (c j : Dev nD) (f : XsT F) : sProp 𝕄 :=
  (rowM j).view.loc (c : Thread nD τ) ↦[(rowM j).view.set]{fullShare} f
def colsAt (c j : Dev nD) (f : XtT F) : sProp 𝕄 :=
  (colM j).view.loc (c : Thread nD τ) ↦[(colM j).view.set]{fullShare} f

omit [FloatOps F] in
instance rowsAt_storable (c j : Dev nD) (f) : BI.Storable (upEmb : UEmb _ 𝕄) (rowsAt (F := F) c j f) := by unfold rowsAt; infer_instance
omit [FloatOps F] in
instance colsAt_storable (c j : Dev nD) (f) : BI.Storable (upEmb : UEmb _ 𝕄) (colsAt (F := F) c j f) := by unfold colsAt; infer_instance

omit [FloatOps F] in
theorem rows_all (c : Dev nD) (f : XsT F) :
    (((c : Thread nD τ).loc cc0_scratch0) ↦{fullShare} f : sProp 𝕄) = bigSep Finset.univ fun j => rowsAt c j f := by
  have h := pointsTo_biUnion (Ix := Unit) (Val := Elt F) (Name := ℕ) (U := UU) (Lvl := ℕ) (ℓ := (c : Thread nD τ).loc cc0_scratch0) (q := fullShare) (f := f)
    Finset.univ rowSet (fun j _ j' _ h => rows_disjoint j j' h)
  rw [rows_cover] at h
  exact h
omit [FloatOps F] in
theorem cols_all (c : Dev nD) (f : XtT F) :
    (((c : Thread nD τ).loc cc0_scratch1) ↦{fullShare} f : sProp 𝕄) = bigSep Finset.univ fun j => colsAt c j f := by
  have h := pointsTo_biUnion (Ix := Unit) (Val := Elt F) (Name := ℕ) (U := UU) (Lvl := ℕ) (ℓ := (c : Thread nD τ).loc cc0_scratch1) (q := fullShare) (f := f)
    Finset.univ colSet (fun j _ j' _ h => cols_disjoint j j' h)
  rw [cols_cover] at h
  exact h

omit [FloatOps F] in
/-- Over all devices: `c` itself, then its peers in the order of the offsets. -/
theorem split_self (c : Dev nD) (Φ : Dev nD → sProp 𝕄) :
    bigSep Finset.univ Φ = iprop(Φ c ∗ chain (fun r => Φ (pe c r)) offs) := by
  rw [bigSep_univ_at Φ c, others, bigSep_map, chain_offs]; rfl

/-! ## The schedule -/

variable (X : Dev nD → XsT F)

/-- The device `k` places after `c`. -/
def pk (c : Dev nD) (k : Fin 32) : Dev nD := ⟨(c.val + k.val) % 32, Nat.mod_lt _ (by decide)⟩
theorem pk_succ (c : Dev nD) (r : Fin 31) : pk c r.succ = pe c r := rfl

def dutiesOf (c : Dev nD) : CK → Finset (Fin 31)
  | none => Finset.univ
  | some (false, k) => if k = 0 then ∅ else {0}
  | some (true, j) => if j = c then ∅ else {0}
def amountOf : CK → ℕ
  | none => 1
  | some _ => NN
def payOf (c : Dev nD) : CK → Fin 31 → sProp 𝕄
  | none, r => iprop(∃ f, colsAt (pe c r) c f)
  | some (false, k), _ => rowsAt c (pk c k) (X c)
  | some (true, j), _ => colsAt c j (gathered X c)

omit [FloatOps F] in
instance payOf_storable (c : Dev nD) (k : CK) (r : Fin 31) : BI.Storable (upEmb : UEmb _ 𝕄) (payOf (F := F) X c k r) := by
  rcases k with _ | ⟨b, k⟩
  · unfold payOf; infer_instance
  · cases b <;> (unfold payOf; infer_instance)

open Classical in
/-- Which of the exchange's semaphores a cell is of. -/
def act (g : GSem nD τ sig) : Option CK := if h : g.1.2 = .tc ∧ ∃ k, csem k = g.2 then some h.2.choose else none
theorem act_kcell (p : Dev nD × CK) : act (kcell p) = some p.2 := by
  unfold act
  have h : (kcell p).1.2 = .tc ∧ ∃ k, csem k = (kcell p).2 := ⟨rfl, p.2, rfl⟩
  rw [dif_pos h]
  exact congrArg some (csem_inj h.2.choose_spec)

def rd : Rounds.Schedule (GSem nD τ sig) (Fin 31) 𝕄 where
  duties g r := if r = 0 then (match act g with | some k => dutiesOf g.1.1 k | none => ∅) else ∅
  unitless _ := False
  amount g _ _ := match act g with | some k => amountOf k | none => 1
  payload g _ d := match act g with | some k => payOf X g.1.1 k d | none => iprop(emp)
  amount_pos g _ _ _ := by
    rcases act g with _ | _ | k
    · exact Nat.one_pos
    · exact Nat.one_pos
    · exact NN_pos

omit [FloatOps F] in
instance rd_payload_storable (g : GSem nD τ sig) (r : ℕ) (d : Fin 31) :
    BI.Storable (upEmb : UEmb _ 𝕄) ((rd (F := F) X).payload g r d) := by
  show BI.Storable upEmb (match act g with | some k => payOf X g.1.1 k d | none => iprop(emp))
  rcases act g with _ | k
  · dsimp only; infer_instance
  · dsimp only; infer_instance

section Tables
variable (c : Dev nD) (k : CK)

omit [FloatOps F] in
theorem duties_at : (rd (F := F) X).duties (kcell (c, k)) 0 = dutiesOf c k := by
  dsimp only [rd]; rw [if_pos rfl, act_kcell]
omit [FloatOps F] in
theorem duties_later (g : GSem nD τ sig) : ∀ r, 1 ≤ r → (rd (F := F) X).duties g r = ∅ :=
  fun r hr => by dsimp only [rd]; rw [if_neg (by omega)]
omit [FloatOps F] in
theorem amount_at (r : ℕ) (d : Fin 31) : (rd (F := F) X).amount (kcell (c, k)) r d = amountOf k := by
  dsimp only [rd]; rw [act_kcell]
omit [FloatOps F] in
theorem payload_at (r : ℕ) (d : Fin 31) : (rd (F := F) X).payload (kcell (c, k)) r d = payOf X c k d := by
  dsimp only [rd]; rw [act_kcell]
theorem duties_send (r : Fin 31) : dutiesOf c (some (false, r.succ)) = {0} := by
  show (if r.succ = 0 then ∅ else {0}) = _; exact if_neg (Fin.succ_ne_zero r)
theorem duties_recv (r : Fin 31) : dutiesOf c (some (true, pe c r)) = {0} := by
  show (if pe c r = c then ∅ else {0}) = _; exact if_neg (pe_ne c r)
theorem duties_land (r : Fin 31) : dutiesOf (pe c r) (some (true, c)) = {0} := by
  show (if c = pe c r then ∅ else {0}) = _; exact if_neg (pe_ne c r).symm
omit [FloatOps F] in
theorem duties_idle_send : ∀ r, 0 ≤ r → (rd (F := F) X).duties (sendCell c 0) r = ∅ := fun r _ => by
  by_cases h : r = 0
  · subst h; rw [duties_at]; rfl
  · exact duties_later X _ r (by omega)
omit [FloatOps F] in
theorem duties_idle_recv : ∀ r, 0 ≤ r → (rd (F := F) X).duties (recvCell c c) r = ∅ := fun r _ => by
  by_cases h : r = 0
  · subst h; rw [duties_at]; exact if_pos rfl
  · exact duties_later X _ r (by omega)
omit [FloatOps F] in
theorem expect_bar : (rd (F := F) X).expect (barCell c) 0 = 31 := by
  unfold Schedule.expect Schedule.amountOf
  rw [duties_at, Finset.sum_congr rfl fun d _ => amount_at X c none 0 d, Finset.sum_const]
  rfl
omit [FloatOps F] in
theorem expect_one (h : dutiesOf c k = {0}) : (rd (F := F) X).expect (kcell (c, k)) 0 = amountOf k := by
  unfold Schedule.expect Schedule.amountOf
  rw [duties_at, h, Finset.sum_singleton, amount_at]
omit [FloatOps F] in
theorem rest_bar : bigSep ((rd (F := F) X).duties (barCell c) 0 \ ∅) (fun d => (rd (F := F) X).payload (barCell c) 0 d)
    = chain (fun r => iprop(∃ f, colsAt (pe c r) c f)) offs := by
  rw [Finset.sdiff_empty, duties_at, ← chain_offs]
  exact bigSep_congr fun d _ => payload_at X c none 0 d
omit [FloatOps F] in
theorem rest_one (h : dutiesOf c k = {0}) :
    bigSep ((rd (F := F) X).duties (kcell (c, k)) 0 \ ∅) (fun d => (rd (F := F) X).payload (kcell (c, k)) 0 d) = payOf X c k 0 := by
  rw [Finset.sdiff_empty, duties_at, h, bigSep_singleton, payload_at]

end Tables

/-! ## What each device owes at launch, and the levels -/

/-- The signals, and the landings, that `c` owes its peers at the offsets of `l`. -/
def owB (c : Dev nD) : List (Fin 31) → CellTallies nD τ sig Unit
  | [] => 0
  | r :: l => owB c l + tallyAt (barCell (pe c r)) () 1
def owR (c : Dev nD) : List (Fin 31) → CellTallies nD τ sig Unit
  | [] => 0
  | r :: l => owR c l + tallyAt (recvCell (pe c r) c) () NN
def O₀ (c : Dev nD) : CellTallies nD τ sig Unit := owR c offs + owB c offs

def L (g : GSem nD τ sig) : Finset Unit := if g.1.2 = .tc then {()} else ∅
open Classical in
/-- The barriers at 1, the landing semaphores at 2, all else at 0. -/
def lv (g : GSem nD τ sig) (_ : Unit) : ℕ := if g.2 = .reg barS then 1 else if ∃ j, g.2 = .dma (rS j) then 2 else 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := if_pos rfl
theorem lv_recv (c : Dev nD) (j : Fin 32) (u : Unit) : lv (recvCell c j) u = 2 := by
  unfold lv; rw [if_neg (osem_ne_bar (true, j)), if_pos ⟨j, rfl⟩]

theorem owB_pos {c : Dev nD} {g : GSem nD τ sig} {u : Unit} :
    ∀ {l : List (Fin 31)}, 0 < owB c l g u → ∃ r, g = barCell (pe c r)
  | [], h => absurd h (by unfold owB; exact Nat.lt_irrefl 0)
  | r :: l, h => by
    unfold owB at h
    rw [Pi.add_apply, Finsupp.add_apply, tallyAt_apply] at h
    by_cases hg : g = barCell (pe c r) ∧ u = ()
    · exact ⟨r, hg.1⟩
    · rw [if_neg hg, Nat.add_zero] at h; exact owB_pos h
theorem owR_pos {c : Dev nD} {g : GSem nD τ sig} {u : Unit} :
    ∀ {l : List (Fin 31)}, 0 < owR c l g u → ∃ r, g = recvCell (pe c r) c
  | [], h => absurd h (by unfold owR; exact Nat.lt_irrefl 0)
  | r :: l, h => by
    unfold owR at h
    rw [Pi.add_apply, Finsupp.add_apply, tallyAt_apply] at h
    by_cases hg : g = recvCell (pe c r) c ∧ u = ()
    · exact ⟨r, hg.1⟩
    · rw [if_neg hg, Nat.add_zero] at h; exact owR_pos h
theorem O₀_pos {c : Dev nD} {g : GSem nD τ sig} {u : Unit} (h : 0 < O₀ c g u) :
    ∃ r, g = barCell (pe c r) ∨ g = recvCell (pe c r) c := by
  unfold O₀ at h
  rw [Pi.add_apply, Finsupp.add_apply] at h
  rcases Nat.eq_zero_or_pos (owR c offs g u) with h0 | h0
  · rw [h0, Nat.zero_add] at h
    obtain ⟨r, hr⟩ := owB_pos h; exact ⟨r, .inl hr⟩
  · obtain ⟨r, hr⟩ := owR_pos h0; exact ⟨r, .inr hr⟩

omit [FloatOps F] in
theorem mayWait_stage (c : Dev nD) (q : DmaSem sig) (hq : ∀ j, q ≠ rS j) (O : CellTallies nD τ sig Unit) (hO : O = O₀ c ∨ O = 0) :
    (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by obtain ⟨r, rfl | rfl⟩ := O₀_pos hg <;> exact Finset.mem_singleton_self _)
      (fun p hp => by
        rw [Finset.mem_singleton.mp hp]; dsimp only [lv]
        rw [if_neg (fun h => by cases h), if_neg (fun ⟨j, h⟩ => hq j (dma_inj h))])
      (fun g u hg => by
        obtain ⟨r, rfl | rfl⟩ := O₀_pos hg
        · rw [lv_bar]; decide
        · rw [lv_recv]; decide)
  · rw [MayWait_zero]; iintro -; iempintro

omit [FloatOps F] in
/-- At its barrier a device owes the landings only, and these are above it. -/
theorem mayWait_bar (c : Dev nD) (l : List (Fin 31)) :
    (levAts L lv : sProp 𝕄) ⊢ MayWait (c : Thread nD τ) (.reg barS) () (owR c l) :=
  MayOwe.of_cut (L := L) (lev := lv) 1 (fun p hp => by rw [Finset.mem_singleton.mp hp, L_tc]; exact Finset.mem_singleton_self _)
    (fun g u hg => by obtain ⟨r, rfl⟩ := owR_pos hg; exact Finset.mem_singleton_self _)
    (fun p hp => by rw [Finset.mem_singleton.mp hp]; exact Nat.le_of_eq (lv_bar c ()))
    (fun g u hg => by obtain ⟨r, rfl⟩ := owR_pos hg; rw [lv_recv]; decide)

end Cert.A2A

end
-- ==== Proof.Steps.lean ====
/-
The four loops of the exchange, each proved once for every offset and along any list of offsets.
-/
module

public import proofs.«01_k».proof.Proof.Sched

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

variable (X : Dev nD → XsT F)

/-- Every cell's invariant, under the names `K`, and that every cell is at round 0 at least. -/
def records (K : Dev nD × CK → ℕ) : sProp 𝕄 :=
  iprop((bigSep Finset.univ fun p : Dev nD × CK => cellInv ER (rd X) (K p) (kcell p))
    ∗ bigSep Finset.univ fun p : Dev nD × CK => reached ER (kcell p) 0)

instance records_persistent (K : Dev nD × CK → ℕ) : BI.Persistent (records X K) := by unfold records; infer_instance

omit [FloatOps F] in
theorem inv_at (K : Dev nD × CK → ℕ) (p : Dev nD × CK) : records X K ⊢ cellInv ER (rd X) (K p) (kcell p) :=
  sep_elim_left.trans (bigSep_elim (Finset.mem_univ p))
omit [FloatOps F] in
theorem reached_at (K : Dev nD × CK → ℕ) (p : Dev nD × CK) : records X K ⊢ reached ER (kcell p) 0 :=
  sep_elim_right.trans (bigSep_elim (Finset.mem_univ p))

variable (K : Dev nD × CK → ℕ) (c : Dev nD)

/-- The run of `p` on device `c`. -/
abbrev WP {α : Type} (c : Dev nD) (p : Pr F α) (Q : α → sProp 𝕄) : sProp 𝕄 :=
  wp frame (wpE (defs₀ (F := F)) 𝒱₀ (c : Thread nD τ) none) Set.univ p Q

/-! ## The signals -/

/-- What `c` spends on its signal to the peer at `r`: the right to pay it, and the columns that the peer will fill. -/
def sigPay (r : Fin 31) : sProp 𝕄 :=
  iprop(dutyTok ER (barCell (pe c r)) 0 r.rev ∗ ∃ f, colsAt c (pe c r) f)

theorem pay_bar (r : Fin 31) : payOf X (pe c r) none r.rev = iprop(∃ f, colsAt c (pe c r) f) := by
  show iprop(∃ f, colsAt (pe (pe c r) r.rev) (pe c r) f) = _; rw [pe_pe]

theorem wp_sig (n : Dev nD) (r : Fin 31) (hn : n = pe c r) (O : CellTallies nD τ sig Unit) (W : Waits sig Unit)
    {α : Type} {Q : α → sProp 𝕄} {k : PUnit → Pr F α} :
    iprop(records X K ∗ owes (c : Thread nD τ) (O + tallyAt (barCell (pe c r)) () 1) W ∗ sigPay c r)
      ⊢ iprop((owes (c : Thread nD τ) O W -∗ WP c (k ⟨⟩) Q) -∗ WP c ((semSignalWord n barS 1#32 : Pr F PUnit).bind k) Q) := by
  subst hn
  simp only [semSignalWord, Prog.lift, Prog.bind_op, Prog.bind_ret]
  unfold sigPay
  iintro ⟨#HR, HO, Ht, Hf⟩ Hk
  iapply (Rounds.wp_signal 𝒱₀ ER (rd X) (c : Thread nD τ) none (dst := (pe c r : Thread nD τ)) (κ := K (pe c r, none))
      (r := 0) (d := r.rev) (by rw [duties_at X (pe c r) none]; exact Finset.mem_univ _)
      ((amount_at X (pe c r) none 0 r.rev).trans (by decide)) () O rfl) $$ [HO Ht Hf]
  · isplitr; · iapply (inv_at X K (pe c r, none)); iexact HR
    isplitl [HO]; · iexact HO
    isplitl [Ht]; · iexact Ht
    isplitl [Hf]
    · rw [payload_at X (pe c r) none]; rw [pay_bar]; iexact Hf
    · iapply (reached_at X K (pe c r, none)); iexact HR
  iexact Hk

theorem wp_sigs (R : CellTallies nD τ sig Unit) (W : Waits sig Unit) {α : Type} {Q : α → sProp 𝕄} (k : Pr F α) :
    ∀ l : List (Fin 31),
      iprop(records X K ∗ owes (c : Thread nD τ) (R + owB c l) W ∗ chain (sigPay (F := F) c) l)
        ⊢ iprop((owes (c : Thread nD τ) R W -∗ WP c k Q) -∗ WP c (visit (sigOp c) k l) Q)
  | [] => by
    unfold owB visit; rw [add_zero]
    iintro ⟨-, HO, -⟩ Hk
    iapply Hk $$ HO
  | r :: l => by
    unfold owB visit chain sigOp
    rw [← add_assoc]
    iintro ⟨#HR, HO, Hp, Hl⟩ Hk
    iapply (wp_sig X K c _ r (sigDev_pe c r) (R + owB c l) W) $$ [HO Hp]
    · isplitr; · iexact HR
      isplitl [HO] <;> iassumption
    iintro HO
    iapply (wp_sigs R W k l) $$ [HO Hl]
    · isplitr; · iexact HR
      isplitl [HO] <;> iassumption
    iexact Hk

/-! ## The copies -/

/-- What `c` spends on its copy to the peer at `r`. -/
def copyPay (r : Fin 31) : sProp 𝕄 :=
  iprop(dutyTok ER (recvCell (pe c r) c) 0 0 ∗ dutyTok ER (sendCell c r.succ) 0 0 ∗ rowsAt c (pe c r) (X c) ∗ ∃ f, colsAt (pe c r) c f)

theorem pay_send (r : Fin 31) : payOf X c (some (false, r.succ)) 0 = rowsAt c (pe c r) (X c) := by
  dsimp only [payOf]; rw [pk_succ]
theorem pay_land (d j : Dev nD) : payOf X d (some (true, j)) 0 = colsAt d j (gathered X d) := rfl
theorem landed (d j : Dev nD) (f : XtT F) :
    ((colM j).view.loc (d : Thread nD τ) ↦[(colM j).view.set]{fullShare} ((colM j).view.write (Elt F) f ((rowM d).view.read (Elt F) (X j)) Finset.univ) : sProp 𝕄)
      ⊢ colsAt d j (gathered X d) := by
  unfold colsAt
  exact Entails.of_eq (pointsTo_congr (landed_eq X d j f))

theorem wp_copy (r : Fin 31) (n : Dev nD) (hn : n = pe c r) (s t : Memref sig .tc .vmem S128x128 .fp8e5m2) (hs : s = rowM (pe c r)) (ht : t = colM c)
    (q : DmaSem sig) (hq : q = rS c)
    {hsc : (t : Memref sig (Dev.tc n : Thread nD τ).2.kind .vmem S128x128 .fp8e5m2).view.ref.isScScratch = false}
    {hsrc : s.view.WordExact} {hdst : t.view.WordExact}
    {hsem : DmaTarget.Typed .vmem (.dma q) (.remote (Dev.tc n : Thread nD τ) t (.dma (sS r.succ)) hsc)}
    {α : Type} {Q : α → sProp 𝕄} {k : PUnit → Pr F α} (O : CellTallies nD τ sig Unit) (W : Waits sig Unit) :
    iprop(records X K ∗ owes (c : Thread nD τ) (O + tallyAt (recvCell (pe c r) c) () NN) W ∗ copyPay X c r)
      ⊢ iprop(((cred (tallyAt (sendCell c r.succ) () NN) ∗ owes (c : Thread nD τ) O W) -∗ WP c (k ⟨⟩) Q)
          -∗ WP c (.op (.enqueueDma s (.remote (Dev.tc n : Thread nD τ) t (.dma (sS r.succ)) hsc) (.dma q) hsrc hdst hsem) k) Q) := by
  subst hn hs ht hq
  unfold copyPay
  iintro ⟨#HR, HO, Ht, Ht', Hs, ⟨%f, Hd⟩⟩ Hk
  unfold rowsAt colsAt
  have H := Rounds.wp_send_pointsTo (defs := defs₀ (F := F)) (Γ := PendingWaitsCtx.empty) (Es := Set.univ) (Q := Q) (k := k) (hsc := hsc) (hsrc := hsrc) (hdst := hdst) (hsem := hsem)
    𝒱₀ ER (rd X) (c : Thread nD τ) none (κ₁ := K (c, some (false, r.succ))) (κ₂ := K (pe c r, some (true, c)))
    (r₁ := 0) (r₂ := 0) (d₁ := 0) (d₂ := 0) (fs := X c) (fd := f) (q := fullShare)
    (by rw [duties_at X c (some (false, r.succ)), duties_send]; exact Finset.mem_singleton_self _)
    (by rw [duties_at X (pe c r) (some (true, c)), duties_land]; exact Finset.mem_singleton_self _)
    () () NN (credit_col c) (amount_at X c (some (false, r.succ)) 0 0) (amount_at X (pe c r) (some (true, c)) 0 0) O rfl (W := W)
    (by rw [payload_at X c (some (false, r.succ)), pay_send]; unfold rowsAt; exact BI.Entails.refl _)
    (by rw [payload_at X (pe c r) (some (true, c)), pay_land]; exact landed X (pe c r) c f)
  iapply H $$ [HO Ht Ht' Hs Hd]
  · isplitr; · iapply (inv_at X K (c, some (false, r.succ))); iexact HR
    isplitr; · iapply (inv_at X K (pe c r, some (true, c))); iexact HR
    isplitl [Hs]; · iexact Hs
    isplitl [Hd]; · iexact Hd
    isplitl [HO]; · iexact HO
    isplitl [Ht']; · iexact Ht'
    isplitr; · iapply (reached_at X K (c, some (false, r.succ))); iexact HR
    isplitl [Ht]; · iexact Ht
    iapply (reached_at X K (pe c r, some (true, c))); iexact HR
  iexact Hk
theorem wp_copies (i : grid0.Coords) (h : k0_cond1 i = 1#1) (W : Waits sig Unit) {α : Type} {Q : α → sProp 𝕄} (k : Pr F α) :
    ∀ l : List (Fin 31),
      iprop(records X K ∗ owes (c : Thread nD τ) (owR c l) W ∗ chain (copyPay X c) l)
        ⊢ iprop(((owes (c : Thread nD τ) 0 W ∗ chain (fun r => cred (tallyAt (sendCell c r.succ) () NN)) l) -∗ WP c k Q)
          -∗ WP c (visit (copyOp i c h) k l) Q)
  | [] => by
    unfold owR visit chain
    iintro ⟨-, HO, -⟩ Hk
    iapply Hk
    isplitl; · iexact HO
    iempintro
  | r :: l => by
    unfold owR visit chain copyOp
    simp only [Prog.lift, Prog.bind_op, Prog.bind_ret]
    iintro ⟨#HR, HO, Hp, Hl⟩ Hk
    iapply (wp_copy X K c r _ (copyDev_pe c r) _ _ (srcM_eq i c h r) (dstM_eq i c h) _ (landS_eq i c h) (owR c l) W) $$ [HO Hp]
    · isplitr; · iexact HR
      isplitl [HO] <;> iassumption
    iintro ⟨Hc, HO⟩
    iapply (wp_copies i h W k l) $$ [HO Hl]
    · isplitr; · iexact HR
      isplitl [HO] <;> iassumption
    iintro ⟨HO, Hcl⟩
    iapply Hk
    isplitl [HO]; · iexact HO
    isplitl [Hc] <;> iassumption

/-! ## The waits -/

theorem wp_wait_one (p : Bool × Fin 32) (hd : dutiesOf c (some p) = {0}) (w : TpuEff nD τ sig (Elt F) Λ₀ .tc PUnit)
    (hw : ∀ Kt : PUnit → sProp 𝕄, wpE (defs₀ (F := F)) 𝒱₀ (c : Thread nD τ) none Set.univ w Kt = waitSpec (c : Thread nD τ) Set.univ (osem p) NN Kt)
    {α : Type} {Q : α → sProp 𝕄} {k : PUnit → Pr F α} (W : Waits sig Unit) :
    iprop(records X K ∗ owes (c : Thread nD τ) 0 W ∗ cred (tallyAt (kcell (c, some p)) () NN) ∗ atPos ER (kcell (c, some p)) 0 ∅ 0)
      ⊢ iprop(((owes (c : Thread nD τ) 0 (insert (osem p, ()) W) ∗ atPos ER (kcell (c, some p)) 1 ∅ 0 ∗ payOf X c (some p) 0) -∗ WP c (k ⟨⟩) Q)
          -∗ WP c (.op w k) Q) := by
  iintro ⟨#HR, HO, Hc, Hat⟩ Hk
  iapply (Rounds.wp_wait_rest_token 𝒱₀ ER (rd X) (c : Thread nD τ) none (κ := K (c, some p)) (sm := osem p) (k' := NN)
      hw (Set.mem_univ _) () (O := 0) (W := W) (R := 0) (m := 0) (T := ∅)
      (by rw [Nat.zero_add]; exact (expect_one X c (some p) hd).symm)) $$ [HO Hc Hat]
  · isplitr; · iapply (inv_at X K (c, some p)); iexact HR
    isplitl [Hc]; · iexact Hc
    isplitl [HO]; · iexact HO
    isplitr; · rw [MayWait_zero]; iempintro
    iexact Hat
  iintro ⟨HO, Hat, -, Hpay⟩
  ihave Hp := (Entails.of_eq (rest_one X c (some p) hd)) $$ Hpay
  iapply Hk
  isplitl [HO]; · iexact HO
  isplitl [Hat] <;> iassumption

/-- A loop of waits, the one at `r` on the semaphore `p r`. -/
theorem wp_waits (f : Fin 31 → Pr F PUnit) (p : Fin 31 → Bool × Fin 32) (hd : ∀ r, dutiesOf c (some (p r)) = {0})
    (w : Fin 31 → TpuEff nD τ sig (Elt F) Λ₀ .tc PUnit) (hf : ∀ r, f r = Prog.lift (w r))
    (hw : ∀ r, ∀ Kt : PUnit → sProp 𝕄, wpE (defs₀ (F := F)) 𝒱₀ (c : Thread nD τ) none Set.univ (w r) Kt = waitSpec (c : Thread nD τ) Set.univ (osem (p r)) NN Kt)
    {α : Type} {Q : α → sProp 𝕄} (k : Pr F α) :
    ∀ (l : List (Fin 31)) (W : Waits sig Unit),
      iprop(records X K ∗ owes (c : Thread nD τ) 0 W
          ∗ chain (fun r => cred (tallyAt (kcell (c, some (p r))) () NN)) l ∗ chain (fun r => atPos ER (kcell (c, some (p r))) 0 ∅ 0) l)
        ⊢ iprop((∀ W', (owes (c : Thread nD τ) 0 W' ∗ chain (fun r => atPos ER (kcell (c, some (p r))) 1 ∅ 0) l
              ∗ chain (fun r => payOf X c (some (p r)) 0) l) -∗ WP c k Q)
          -∗ WP c (visit f k l) Q)
  | [], W => by
    unfold visit chain
    iintro ⟨-, HO, -, -⟩ Hk
    iapply Hk
    isplitl; · iexact HO
    isplitl <;> iempintro
  | r :: l, W => by
    unfold visit chain
    rw [hf r]
    simp only [Prog.lift, Prog.bind_op, Prog.bind_ret]
    iintro ⟨#HR, HO, ⟨Hc, Hcl⟩, ⟨Ha, Hal⟩⟩ Hk
    iapply (wp_wait_one X K c (p r) (hd r) (w r) (hw r) W) $$ [HO Hc Ha]
    · isplitr; · iexact HR
      isplitl [HO]; · iexact HO
      isplitl [Hc] <;> iassumption
    iintro ⟨HO, Ha, Hp⟩
    iapply (wp_waits f p hd w hf hw k l (insert (osem (p r), ()) W)) $$ [HO Hcl Hal]
    · isplitr; · iexact HR
      isplitl [HO]; · iexact HO
      isplitl [Hcl] <;> iassumption
    iintro %W' ⟨HO, Hal, Hpl⟩
    iapply Hk
    isplitl [HO]; · iexact HO
    isplitl [Ha Hal]
    · isplitl [Ha] <;> iassumption
    isplitl [Hp] <;> iassumption

/-- The landing waits. -/
theorem wp_lands (i : grid0.Coords) (h : k0_cond1 i = 1#1) {α : Type} {Q : α → sProp 𝕄} (k : Pr F α) (W : Waits sig Unit) :
      iprop(records X K ∗ owes (c : Thread nD τ) 0 W
          ∗ chain (fun r => cred (tallyAt (recvCell c (pe c r)) () NN)) offs ∗ chain (fun r => atPos ER (recvCell c (pe c r)) 0 ∅ 0) offs)
        ⊢ iprop((∀ W', (owes (c : Thread nD τ) 0 W' ∗ chain (fun r => atPos ER (recvCell c (pe c r)) 1 ∅ 0) offs
              ∗ chain (fun r => colsAt c (pe c r) (gathered X c)) offs) -∗ WP c k Q)
          -∗ WP c (visit (landOp i c h) k offs) Q) :=
  wp_waits X K c (landOp i c h) (fun r => (true, pe c r)) (fun r => duties_recv c r) _ (fun r => rfl)
    (fun r Kt => (wpE_waitDma2_eq 𝒱₀ (c : Thread nD τ) none Set.univ Kt).trans (by rw [recvS_eq])) k offs W

/-- The sending waits. -/
theorem wp_backs (i : grid0.Coords) (h : k0_cond1 i = 1#1) {α : Type} {Q : α → sProp 𝕄} (k : Pr F α) (W : Waits sig Unit) :
      iprop(records X K ∗ owes (c : Thread nD τ) 0 W
          ∗ chain (fun r => cred (tallyAt (sendCell c r.succ) () NN)) offs ∗ chain (fun r => atPos ER (sendCell c r.succ) 0 ∅ 0) offs)
        ⊢ iprop((∀ W', (owes (c : Thread nD τ) 0 W' ∗ chain (fun r => atPos ER (sendCell c r.succ) 1 ∅ 0) offs
              ∗ chain (fun r => rowsAt c (pe c r) (X c)) offs) -∗ WP c k Q)
          -∗ WP c (visit (backOp i c h) k offs) Q) :=
  wp_waits X K c (backOp i c h) (fun r => (false, r.succ)) (fun r => duties_send c r) _ (fun r => rfl)
    (fun r Kt => wpE_waitDma2_eq 𝒱₀ (c : Thread nD τ) none Set.univ Kt) k offs W

/-- The barrier's wait. -/
theorem wp_barrier (W : Waits sig Unit) {α : Type} {Q : α → sProp 𝕄} {k : PUnit → Pr F α} :
    iprop(records X K ∗ levAts L lv ∗ owes (c : Thread nD τ) (owR c offs) W ∗ cred (tallyAt (barCell c) () 31) ∗ atPos ER (barCell c) 0 ∅ 0)
      ⊢ iprop(((owes (c : Thread nD τ) (owR c offs) (insert (SemLoc.reg barS, ()) W) ∗ atPos ER (barCell c) 1 ∅ 0
            ∗ chain (fun r => iprop(∃ f, colsAt (pe c r) c f)) offs) -∗ WP c (k ⟨⟩) Q)
          -∗ WP c ((semWaitWord barS 31#32 : Pr F PUnit).bind k) Q) := by
  simp only [semWaitWord, Prog.lift, Prog.bind_op, Prog.bind_ret]
  iintro ⟨#HR, #Hlev, HO, Hc, Hat⟩ Hk
  iapply (Rounds.wp_wait_rest_token 𝒱₀ ER (rd X) (c : Thread nD τ) none (κ := K (c, none))
      (wpE_semWait_eq 𝒱₀ (c : Thread nD τ) none Set.univ) (Set.mem_univ _) () (O := owR c offs) (W := W) (R := 0) (m := 0) (T := ∅)
      (by rw [expect_bar X c]; decide)) $$ [HO Hc Hat]
  · isplitr; · iapply (inv_at X K (c, none)); iexact HR
    isplitl [Hc]; · iexact Hc
    isplitl [HO]; · iexact HO
    isplitr; · iapply (mayWait_bar c offs); iexact Hlev
    iexact Hat
  iintro ⟨HO, Hat, -, Hpay⟩
  ihave Hp := (Entails.of_eq (rest_bar X c)) $$ Hpay
  iapply Hk
  isplitl [HO]; · iexact HO
  isplitl [Hat] <;> iassumption

/-! ## The cells close -/

theorem close_cell (p : CK) : iprop(records X K ∗ atPos ER (kcell (c, p)) 1 ∅ 0) ⊢ iprop(|={Set.univ}=> semVal (kcell (c, p)) 0) := by
  iintro ⟨#HR, Hat⟩
  iapply (Rounds.cell_close ER (rd X) (Set.mem_univ (K (c, p))) (fun h => h) (R := 1) (duties_later X (kcell (c, p))))
  isplitr; · iapply (inv_at X K (c, p)); iexact HR
  iexact Hat

theorem close_chain (p : Fin 31 → CK) : ∀ l : List (Fin 31),
    iprop(records X K ∗ chain (fun r => atPos ER (kcell (c, p r)) 1 ∅ 0) l) ⊢ iprop(|={Set.univ}=> chain (fun r => semVal (kcell (c, p r)) 0) l)
  | [] => by
    unfold chain; iintro -; imodintro; iempintro
  | r :: l => by
    unfold chain
    iintro ⟨#HR, Ha, Hl⟩
    imod (close_cell X K c (p r)) $$ [Ha] with Hz
    · isplitr; · iexact HR
      iexact Ha
    imod (close_chain p l) $$ [Hl] with Hzl
    · isplitr; · iexact HR
      iexact Hl
    imodintro
    isplitl [Hz] <;> iassumption

end Cert.A2A

end
-- ==== Proof.Local.lean ====
/-
The steps of the body that touch the device's own memory only: the copy of `x` into `xs` and of its own block into
`xt`, and a tile of the product.
-/
module

public import proofs.«01_k».proof.Proof.Steps

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## A memref through the rectangle of all of it -/

section Whole
variable {sp : Space} {s : Shape} {e : EltTy} (m : Memref sig .tc sp s e) {off : Fin s.rank → ℕ} (h : off = fun _ => 0)
  (inb : ∀ a, off a + s.size a ≤ s.size a)
include h

omit [FloatOps F] in
theorem emb_full (y : s.Idx) : (m.access (Rect.unit off s.size inb)).emb y = m.view.emb y := by
  refine congrArg m.view.emb (funext fun a => Fin.ext ?_)
  refine (ValueKit.rect_emb_unit_val off s.size inb y a).trans ?_
  have ha : off a = 0 := congrFun h a
  omega
omit [FloatOps F] in
theorem read_full (f : m.view.ty.Contents (Elt F)) : (m.access (Rect.unit off s.size inb)).read (Elt F) f = m.view.read (Elt F) f := by
  have he : ∀ y, (Rect.unit off s.size inb).emb y = y := fun y => funext fun a => Fin.ext (by
    refine (ValueKit.rect_emb_unit_val off s.size inb y a).trans ?_
    have ha : off a = 0 := congrFun h a
    omega)
  exact funext fun y => congrArg (m.view.read (Elt F) f) (he y)
omit [FloatOps F] in
theorem set_full : (m.access (Rect.unit off s.size inb)).set ⊆ m.view.set := View.set_slice_subset _ _
omit [FloatOps F] in
theorem write_full (f : m.view.ty.Contents (Elt F)) (w : s.Idx → Elt F e) :
    m.view.read (Elt F) ((m.access (Rect.unit off s.size inb)).write (Elt F) f w Finset.univ) = w := by
  refine (read_full m h inb _).symm.trans ?_
  exact View.read_write_univ _ _
end Whole

/-! ## The local copies -/

section Copies
variable (X : Dev nD → XsT F) (c : Dev nD) {off : Fin 2 → ℕ}

omit [FloatOps F] in
theorem col_sub (h : off = ![0, 128 * c.val]) (inb : ∀ a, off a + S128x128.size a ≤ S128x4096.size a) :
    (xtM.access (Rect.unit (s := S128x4096) off S128x128.size inb)).set ⊆ (colM c).view.set := by subst h; exact Finset.Subset.refl _
omit [FloatOps F] in
theorem row_read (h : off = ![128 * c.val, 0]) (inb : ∀ a, off a + S128x128.size a ≤ S4096x128.size a) (f : XsT F) :
    (xsM.access (Rect.unit (s := S4096x128) off S128x128.size inb)).read (Elt F) f = (rowM c).view.read (Elt F) f := by subst h; rfl
theorem col_write (h : off = ![0, 128 * c.val]) (inb : ∀ a, off a + S128x128.size a ≤ S128x4096.size a) (f : XtT F) :
    ((colM c).view.loc (c : Thread nD τ) ↦[(colM c).view.set]{fullShare}
        ((xtM.access (Rect.unit (s := S128x4096) off S128x128.size inb)).write (Elt F) f ((rowM c).view.read (Elt F) (X c)) Finset.univ) : sProp 𝕄)
      ⊢ colsAt c c (gathered X c) := by
  subst h; unfold colsAt
  exact Entails.of_eq (pointsTo_congr (landed_eq X c c f))

theorem hz : (![0, 0] : Fin 2 → Nat) = fun _ => 0 := funext fun a => by fin_cases a <;> rfl

omit [FloatOps F] in
theorem owns_whole_eq (c : Dev nD) (b : Ref sig .tc) (x : b.ty.Contents (Elt F)) :
    (owns (Ix := Unit) (Name := ℕ) (U := UU) (Lvl := ℕ) (c : Thread nD τ) (Memref.whole b) fullShare x : sProp 𝕄)
      = iprop(∃ f : Buf (Elt F) (((c : Dev nD) : Thread nD τ).loc b), ⌜f = x⌝ ∗ (((c : Thread nD τ).loc b) ↦{fullShare} f)) := by
  unfold owns; simp only [Memref.view_whole, View.read_whole, View.set_whole]

/-- `x` read, stored in `xs`, and the device's own block in `xt`. -/
theorem wp_local (i : grid0.Coords) (h : k0_cond1 i = 1#1) {α : Type} {Q : α → sProp 𝕄} {k : PUnit → Pr F α} :
    iprop((((c : Thread nD τ).loc cc0_stg0_0) ↦{fullShare} (X c)) ∗ (∃ f, ((c : Thread nD τ).loc cc0_scratch0) ↦{fullShare} f) ∗ ∃ f, colsAt c c f)
      ⊢ iprop((((((c : Thread nD τ).loc cc0_stg0_0) ↦{fullShare} (X c)) ∗ (((c : Thread nD τ).loc cc0_scratch0) ↦{fullShare} (X c)) ∗ colsAt c c (gathered X c)) -∗ WP c (k ⟨⟩) Q)
          -∗ WP c ((localOps i c h).bind k) Q) := by
  unfold localOps
  simp only [Prog.lift, Prog.bind_op, Prog.bind_ret]
  unfold colsAt
  iintro ⟨Hx, ⟨%f, Hs⟩, ⟨%g, Ht⟩⟩ Hk
  iapply (wp_load 𝒱₀ (c : Thread nD τ) none Set.univ (m := xM) (Finset.subset_univ _)) $$ Hx; iintro Hx
  iapply (wp_load 𝒱₀ (c : Thread nD τ) none Set.univ (m := xsM) (Finset.subset_univ _)) $$ Hs; iintro Hs
  iapply (wp_store 𝒱₀ (c : Thread nD τ) none Set.univ (m := xsM) (r := Rect.unit (s := S4096x128) ![0, 0] S4096x128.size inb_S4096x128_S4096x128_0_0)
    (Mk := Finset.univ) (Finset.subset_univ _)) $$ Hs; iintro Hs
  rw [show (xsM.access (Rect.unit (s := S4096x128) ![0, 0] S4096x128.size inb_S4096x128_S4096x128_0_0)).write (Elt F) f
      (k0_pay2 (xM.view.readAt (Elt F) (Rect.unit (s := S4096x128) ![0, 0] S4096x128.size inb_S4096x128_S4096x128_0_0).toLoadRect (X c))) Finset.univ = X c from
    (Memref.write_access_unit_zero_univ (Elt F) cc0_scratch0 hz _ f _).trans ((pay2_eq _).trans (Memref.readAt_unit_zero (Elt F) cc0_stg0_0 hz _ _))]
  iapply (wp_load_rect 𝒱₀ (c : Thread nD τ) none Set.univ (m := xsM) (r := Rect.unit (s := S4096x128) (k0_off1 c) S128x128.size (k0_off1_inb i c h))
    (Finset.subset_univ _)) $$ Hs; iintro Hs
  iapply (wp_load_rect 𝒱₀ (c : Thread nD τ) none Set.univ (m := xtM) (r := Rect.unit (s := S128x4096) (k0_off2 c) S128x128.size (k0_off2_inb i c h))
    (col_sub c (k0_off2_eq c) _)) $$ Ht; iintro Ht
  iapply (wp_store 𝒱₀ (c : Thread nD τ) none Set.univ (m := xtM) (r := Rect.unit (s := S128x4096) (k0_off2 c) S128x128.size (k0_off2_inb i c h))
    (Mk := Finset.univ) (col_sub c (k0_off2_eq c) _)) $$ Ht; iintro Ht
  rw [row_read c (k0_off1_eq c), pay3_eq]
  ihave Ht' := (col_write X c (k0_off2_eq c) (k0_off2_inb i c h) g) $$ Ht
  unfold colsAt
  iapply Hk
  isplitl [Hx]; · iexact Hx
  isplitl [Hs]; · iexact Hs
  iexact Ht'
end Copies

/-! ## A tile -/

section Tile
variable (c : Dev nD)
  (a2 : Memref sig .tc .vmem S4096x512 .fp8e5m2) (a3 a4 : Memref sig .tc .smem S1 .f32) (a5 : Memref sig .tc .vmem S128x512 .f32)
  (x2 : S4096x512.Idx → Elt F .fp8e5m2) (g : XtT F) (x3 x4 : S1.Idx → Elt F .f32)

theorem hz1 : (![0] : Fin 1 → Nat) = fun _ => 0 := funext fun a => by fin_cases a; rfl

theorem wp_tile (Kt : PUnit → sProp 𝕄) :
    iprop(owns (c : Thread nD τ) a2 fullShare x2 ∗ (((c : Thread nD τ).loc cc0_scratch1) ↦{fullShare} g)
        ∗ owns (c : Thread nD τ) a3 fullShare x3 ∗ owns (c : Thread nD τ) a4 fullShare x4 ∗ ∃ x, owns (c : Thread nD τ) a5 fullShare x)
      ⊢ iprop(((owns (c : Thread nD τ) a2 fullShare x2 ∗ (((c : Thread nD τ).loc cc0_scratch1) ↦{fullShare} g)
        ∗ owns (c : Thread nD τ) a3 fullShare x3 ∗ owns (c : Thread nD τ) a4 fullShare x4
        ∗ owns (c : Thread nD τ) a5 fullShare (k0_pay1 x2 g (x3 (Shape.Idx.first Nat.one_pos)) (x4 (Shape.Idx.first Nat.one_pos)))) -∗ Kt ⟨⟩)
          -∗ WP c (tile a2 a3 a4 a5) Kt) := by
  unfold tile
  simp only [Prog.lift, smemLoad, smemLoadElt, Prog.bind_op, Prog.bind_ret]
  unfold owns
  iintro ⟨⟨%f2, %h2, H2⟩, Ht, ⟨%f3, %h3, H3⟩, ⟨%f4, %h4, H4⟩, ⟨%x5, %f5, -, H5⟩⟩ Hk
  iapply (wp_load_rect 𝒱₀ (c : Thread nD τ) none Set.univ (m := a2) (r := Rect.unit (s := S4096x512) ![0, 0] S4096x512.size inb_S4096x512_S4096x512_0_0)
    (set_full a2 hz _)) $$ H2; iintro H2
  iapply (wp_load 𝒱₀ (c : Thread nD τ) none Set.univ (m := xtM) (Finset.subset_univ _)) $$ Ht; iintro Ht
  iapply (wp_load_rect 𝒱₀ (c : Thread nD τ) none Set.univ (m := a3) (r := Rect.unit (s := S1) ![0] S1.size inb_S1_S1_0) (set_full a3 hz1 _)) $$ H3; iintro H3
  iapply (wp_load_rect 𝒱₀ (c : Thread nD τ) none Set.univ (m := a4) (r := Rect.unit (s := S1) ![0] S1.size inb_S1_S1_0) (set_full a4 hz1 _)) $$ H4; iintro H4
  iapply (wp_load_rect 𝒱₀ (c : Thread nD τ) none Set.univ (m := a5) (r := Rect.unit (s := S128x512) ![0, 0] S128x512.size inb_S128x512_S128x512_0_0)
    (set_full a5 hz _)) $$ H5; iintro H5
  iapply (wp_store 𝒱₀ (c : Thread nD τ) none Set.univ (m := a5) (r := Rect.unit (s := S128x512) ![0, 0] S128x512.size inb_S128x512_S128x512_0_0)
    (Mk := Finset.univ) (set_full a5 hz _)) $$ H5; iintro H5
  rw [wp_ret]; imodintro
  iapply Hk
  isplitl [H2]
  · iexists f2; isplitr; · (ipureintro; exact h2)
    iexact H2
  isplitl [Ht]; · iexact Ht
  isplitl [H3]
  · iexists f3; isplitr; · (ipureintro; exact h3)
    iexact H3
  isplitl [H4]
  · iexists f4; isplitr; · (ipureintro; exact h4)
    iexact H4
  iexists _
  isplitr
  rotate_left
  · iexact H5
  ipureintro
  refine (write_full a5 hz _ _ _).trans ?_
  rw [read_full a2 hz, read_full a3 hz1, read_full a4 hz1, h2, h3, h4]
  exact congrArg (fun v => k0_pay1 x2 v _ _) (Memref.readAt_unit_zero (Elt F) cc0_scratch1 hz _ g)
end Tile

end Cert.A2A

end
-- ==== Proof.Exchange.lean ====
/-
The exchange of the first grid point, from what a device starts with to the gathered buffer and the closed cells.
-/
module

public import proofs.«01_k».proof.Proof.Local

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ UU ℕ

/-! ## Splitting and joining -/

omit [FloatOps F] in
theorem chain_sep (Φ Ψ : Fin 31 → sProp 𝕄) : chain (fun r => iprop(Φ r ∗ Ψ r)) offs = iprop(chain Φ offs ∗ chain Ψ offs) := by
  rw [← chain_offs, ← chain_offs, ← chain_offs, bigSep_sep']
omit [FloatOps F] in
theorem chain_mono {Φ Ψ : Fin 31 → sProp 𝕄} (h : ∀ r, Φ r ⊢ Ψ r) : chain Φ offs ⊢ chain Ψ offs := by
  rw [← chain_offs, ← chain_offs]; exact bigSep_mono fun r _ => h r

theorem fin32 : (Finset.univ.erase 0 : Finset (Fin 32)) = Finset.univ.map ⟨Fin.succ, Fin.succ_injective 31⟩ := by decide
theorem optCK : (Finset.univ.erase none : Finset CK) = Finset.univ.map ⟨some, Option.some_injective _⟩ := by
  ext k; rw [Finset.mem_erase, Finset.mem_map]
  rcases k with _ | p
  · exact ⟨fun h => absurd rfl h.1, fun ⟨_, _, h⟩ => absurd h (by intro h; cases h)⟩
  · exact ⟨fun _ => ⟨p, Finset.mem_univ _, rfl⟩, fun _ => ⟨(by intro h; cases h), Finset.mem_univ _⟩⟩

omit [FloatOps F] in
theorem split_zero (Φ : Fin 32 → sProp 𝕄) : bigSep Finset.univ Φ = iprop(Φ 0 ∗ chain (fun r => Φ r.succ) offs) := by
  rw [bigSep_univ_at Φ 0, fin32, bigSep_map, chain_offs]; rfl
omit [FloatOps F] in
theorem split_ck (Φ : CK → sProp 𝕄) : bigSep Finset.univ Φ = iprop(Φ none ∗ bigSep Finset.univ fun p : Bool × Fin 32 => Φ (some p)) := by
  rw [bigSep_univ_at Φ none, optCK, bigSep_map]; rfl
omit [FloatOps F] in
theorem split_bool (Φ : Bool × Fin 32 → sProp 𝕄) :
    bigSep Finset.univ Φ = iprop((bigSep Finset.univ fun k => Φ (false, k)) ∗ bigSep Finset.univ fun j => Φ (true, j)) := by
  rw [bigSep_univ_prod, bigSep_univ_eq_bigSepL [false, true] (by decide) (by decide)]; rfl
omit [FloatOps F] in
/-- Over a device's cells: the barrier, the idle sending one and the others, the idle landing one and the others. -/
theorem split_cells (c : Dev nD) (Φ : CK → sProp 𝕄) :
    bigSep Finset.univ Φ = iprop(Φ none ∗ (Φ (some (false, 0)) ∗ chain (fun r => Φ (some (false, r.succ))) offs)
      ∗ Φ (some (true, c)) ∗ chain (fun r => Φ (some (true, pe c r))) offs) := by
  rw [split_ck, split_bool, split_zero, split_self c]

variable (X : Dev nD → XsT F) (K : Dev nD × CK → ℕ) (c : Dev nD)

/-! ## What a device starts with -/

def toks : sProp 𝕄 :=
  iprop(chain (fun r => dutyTok ER (barCell (pe c r)) 0 r.rev) offs
    ∗ chain (fun r => dutyTok ER (recvCell (pe c r) c) 0 0) offs
    ∗ chain (fun r => dutyTok ER (sendCell c r.succ) 0 0) offs)
def positions : sProp 𝕄 := bigSep Finset.univ fun k : CK => atPos ER (kcell (c, k)) 0 ∅ 0
def ghost : sProp 𝕄 := iprop(records X K ∗ positions (F := F) c ∗ toks c)
def creds : sProp 𝕄 :=
  iprop(cred (tallyAt (barCell c) () 31) ∗ chain (fun r => cred (tallyAt (recvCell c (pe c r)) () NN)) offs)
def start : sProp 𝕄 := iprop((∃ K, ghost X K c) ∗ creds (F := F) c ∗ levAts L lv)

/-- A device's semaphores of the exchange at zero. -/
def zeros : sProp 𝕄 := bigSep Finset.univ fun k : CK => semVal (kcell (c, k)) 0

theorem close_idle_send : iprop(records X K ∗ atPos ER (sendCell c 0) 0 ∅ 0) ⊢ iprop(|={Set.univ}=> semVal (sendCell c 0) 0) := by
  iintro ⟨#HR, Hat⟩
  iapply (Rounds.cell_close ER (rd X) (Set.mem_univ (K (c, some (false, 0)))) (fun h => h) (R := 0) (duties_idle_send X c))
  isplitr; · iapply (inv_at X K (c, some (false, 0))); iexact HR
  iexact Hat
theorem close_idle_recv : iprop(records X K ∗ atPos ER (recvCell c c) 0 ∅ 0) ⊢ iprop(|={Set.univ}=> semVal (recvCell c c) 0) := by
  iintro ⟨#HR, Hat⟩
  iapply (Rounds.cell_close ER (rd X) (Set.mem_univ (K (c, some (true, c)))) (fun h => h) (R := 0) (duties_idle_recv X c))
  isplitr; · iapply (inv_at X K (c, some (true, c))); iexact HR
  iexact Hat

omit [FloatOps F] in
theorem cols_split (f : XtT F) : (((c : Thread nD τ).loc cc0_scratch1) ↦{fullShare} f : sProp 𝕄)
    = iprop(colsAt c c f ∗ chain (fun r => colsAt c (pe c r) f) offs) := by rw [cols_all, split_self c]
omit [FloatOps F] in
theorem rows_split (f : XsT F) : (((c : Thread nD τ).loc cc0_scratch0) ↦{fullShare} f : sProp 𝕄)
    = iprop(rowsAt c c f ∗ chain (fun r => rowsAt c (pe c r) f) offs) := by rw [rows_all, split_self c]

theorem sigPay_intro : iprop(chain (fun r => dutyTok ER (barCell (pe c r)) 0 r.rev) offs ∗ chain (fun r => iprop(∃ f, colsAt c (pe c r) f)) offs)
    ⊢ (chain (sigPay (F := F) c) offs : sProp 𝕄) := Entails.of_eq (chain_sep _ _).symm
theorem copyPay_intro : iprop(chain (fun r => dutyTok ER (recvCell (pe c r) c) 0 0) offs ∗ chain (fun r => dutyTok ER (sendCell c r.succ) 0 0) offs
      ∗ chain (fun r => rowsAt c (pe c r) (X c)) offs ∗ chain (fun r => iprop(∃ f, colsAt (pe c r) c f)) offs)
    ⊢ (chain (copyPay X c) offs : sProp 𝕄) :=
  Entails.of_eq (by rw [← chain_sep, ← chain_sep, ← chain_sep]; rfl)

set_option maxHeartbeats 1000000 in
theorem wp_exchange (i : grid0.Coords) (h : k0_cond1 i = 1#1) (W : Waits sig Unit) {Q : PUnit → sProp 𝕄} (k : Pr F PUnit) :
    iprop(ghost X K c ∗ creds (F := F) c ∗ levAts L lv ∗ owes (c : Thread nD τ) (O₀ c) W
        ∗ (((c : Thread nD τ).loc cc0_stg0_0) ↦{fullShare} (X c)) ∗ (∃ f, ((c : Thread nD τ).loc cc0_scratch0) ↦{fullShare} f)
        ∗ ∃ f, ((c : Thread nD τ).loc cc0_scratch1) ↦{fullShare} f)
      ⊢ iprop((∀ W', (owes (c : Thread nD τ) 0 W'
            ∗ (((c : Thread nD τ).loc cc0_stg0_0) ↦{fullShare} (X c)) ∗ (((c : Thread nD τ).loc cc0_scratch0) ↦{fullShare} (X c))
            ∗ (((c : Thread nD τ).loc cc0_scratch1) ↦{fullShare} (gathered X c)) ∗ zeros (F := F) c) -∗ WP c k Q)
          -∗ WP c (exchange i c h k) Q) := by
  unfold ghost positions toks creds exchange O₀
  rw [split_cells c]
  iintro ⟨⟨#HR, ⟨HaB, ⟨HaS0, HaS⟩, HaV0, HaV⟩, HtB, HtV, HtS⟩, ⟨HcB, HcV⟩, #Hlev, HO, Hx, Hxs, ⟨%f, Hxt⟩⟩ Hk
  ihave Hxt2 := (Entails.of_eq (cols_split c f)) $$ Hxt
  icases Hxt2 with ⟨Hown, Hcols⟩
  ihave Hcols2 := (chain_mono (Ψ := fun r => iprop(∃ f, colsAt c (pe c r) f)) fun r => exists_intro f) $$ Hcols
  ihave Hsig := (sigPay_intro (F := F) c) $$ [HtB Hcols2]
  · isplitl [HtB] <;> iassumption
  iapply (wp_sigs X K c (owR c offs) W _ offs) $$ [HO Hsig]
  · isplitr; · iexact HR
    isplitl [HO] <;> iassumption
  iintro HO
  iapply (wp_barrier X K c W) $$ [HO HcB HaB]
  · isplitr; · iexact HR
    isplitr; · iexact Hlev
    isplitl [HO]; · iexact HO
    isplitl [HcB] <;> iassumption
  iintro ⟨HO, HaB, Hgot⟩
  iapply (wp_local X c i h) $$ [Hx Hxs Hown]
  · isplitl [Hx]; · iexact Hx
    isplitl [Hxs]; · iexact Hxs
    iexists f; iexact Hown
  iintro ⟨Hx, Hxs, Hown⟩
  ihave Hxs2 := (Entails.of_eq (rows_split c (X c))) $$ Hxs
  icases Hxs2 with ⟨Hrow, Hrows⟩
  ihave Hcp := (copyPay_intro X c) $$ [HtV HtS Hrows Hgot]
  · isplitl [HtV]; · iexact HtV
    isplitl [HtS]; · iexact HtS
    isplitl [Hrows] <;> iassumption
  iapply (wp_copies X K c i h _ _ offs) $$ [HO Hcp]
  · isplitr; · iexact HR
    isplitl [HO] <;> iassumption
  iintro ⟨HO, HcS⟩
  iapply (wp_lands X K c i h _ _) $$ [HO HcV HaV]
  · isplitr; · iexact HR
    isplitl [HO]; · iexact HO
    isplitl [HcV] <;> iassumption
  iintro %W1 ⟨HO, HaV, Hcols⟩
  iapply (wp_backs X K c i h _ W1) $$ [HO HcS HaS]
  · isplitr; · iexact HR
    isplitl [HO]; · iexact HO
    isplitl [HcS] <;> iassumption
  iintro %W2 ⟨HO, HaS, Hrows⟩
  imod (close_cell X K c none) $$ [HaB] with HzB
  · isplitr; · iexact HR
    iexact HaB
  imod (close_idle_send X K c) $$ [HaS0] with HzS0
  · isplitr; · iexact HR
    iexact HaS0
  imod (close_idle_recv X K c) $$ [HaV0] with HzV0
  · isplitr; · iexact HR
    iexact HaV0
  imod (close_chain X K c (fun r => some (false, r.succ)) offs) $$ [HaS] with HzS
  · isplitr; · iexact HR
    iexact HaS
  imod (close_chain X K c (fun r => some (true, pe c r)) offs) $$ [HaV] with HzV
  · isplitr; · iexact HR
    iexact HaV
  iapply Hk $$ %W2
  isplitl [HO]; · iexact HO
  isplitl [Hx]; · iexact Hx
  isplitl [Hrow Hrows]
  · rw [rows_split c (X c)]; isplitl [Hrow] <;> iassumption
  isplitl [Hown Hcols]
  · rw [cols_split c (gathered X c)]; isplitl [Hown] <;> iassumption
  unfold zeros; rw [split_cells c]
  isplitl [HzB]; · iexact HzB
  isplitl [HzS0 HzS]
  · isplitl [HzS0] <;> iassumption
  isplitl [HzV0] <;> iassumption

end Cert.A2A

end
-- ==== Proof.Body.lean ====
/-
The pipeline's data — what each window holds after each point, and the scratch before and after the exchange — and
that the body keeps to it.
-/
module

public import proofs.«01_k».proof.Proof.Exchange

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- Each device's block of `x`, as launched. -/
def xblk (c : Dev nD) : XsT F := iblk m c 0 t0_0
/-- Each device's tile of the result at each point. -/
def outAt (c : Dev nD) (t : Fin cfg0.N) : S128x512.Idx → Elt F .f32 :=
  k0_pay1 (iblk m c 1 t) (gathered (xblk m) c) (iblk m c 2 t (Shape.Idx.first Nat.one_pos)) (iblk m c 3 t (Shape.Idx.first Nat.one_pos))

def Φ₀ (c : Dev nD) : sProp 𝕄 :=
  iprop(start (xblk m) c ∗ (∃ f, ((c : Thread nD τ).loc cc0_scratch0) ↦{fullShare} f) ∗ ∃ f, ((c : Thread nD τ).loc cc0_scratch1) ↦{fullShare} f)
def Φ₁ (c : Dev nD) : sProp 𝕄 :=
  iprop((((c : Thread nD τ).loc cc0_scratch0) ↦{fullShare} (xblk m c)) ∗ (((c : Thread nD τ).loc cc0_scratch1) ↦{fullShare} (gathered (xblk m) c)) ∗ zeros (F := F) c)
def ΦN (c : Dev nD) : ℕ → sProp 𝕄
  | 0 => Φ₀ m c
  | _ + 1 => Φ₁ m c
def owN (c : Dev nD) : ℕ → CellTallies nD τ sig Unit
  | 0 => O₀ c
  | _ + 1 => 0

def dats (_ : Fin 1) (c : Dev nD) : Dat τ (Elt F) Unit ℕ UU ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => outAt m c t
    | ⟨_ + 5, h⟩ => absurd h (Nat.not_lt.2 (Nat.le_add_left _ _))
  Φ t := ΦN m c t.val
  q _ := fullShare
  owed t := owN c t.val

theorem before_0 (c : Dev nD) (t : Fin cfg0.N) (d) : (dats m 0 c).before 0 t d = iblk m c 0 t :=
  ((dats m 0 c).before_in_eq_fetched 0 rfl (fun _ => rfl) (fun _ _ _ => rfl) (fun _ => rfl) t d).trans rfl
theorem before_1 (c : Dev nD) (t : Fin cfg0.N) (d) : (dats m 0 c).before 1 t d = iblk m c 1 t :=
  ((dats m 0 c).before_in_eq_fetched 1 rfl (fun _ => rfl) (fun _ _ _ => rfl) (fun _ => rfl) t d).trans rfl
theorem before_2 (c : Dev nD) (t : Fin cfg0.N) (d) : (dats m 0 c).before 2 t d = iblk m c 2 t :=
  ((dats m 0 c).before_in_eq_fetched 2 rfl (fun _ => rfl) (fun _ _ _ => rfl) (fun _ => rfl) t d).trans rfl
theorem before_3 (c : Dev nD) (t : Fin cfg0.N) (d) : (dats m 0 c).before 3 t d = iblk m c 3 t :=
  ((dats m 0 c).before_in_eq_fetched 3 rfl (fun _ => rfl) (fun _ _ _ => rfl) (fun _ => rfl) t d).trans rfl

theorem cond_at : ∀ t : Fin grid0.N, k0_cond1 (grid0.coords t) = 1#1 ↔ t.val = 0 := by decide +kernel

theorem stage_x (z : Fin 1) : stage0_0 z = xM := by obtain rfl : z = 0 := Subsingleton.elim _ _; rfl

/-- The body at any point and slots: the exchange at the first point, then a tile. -/
theorem body_at (i : grid0.Coords) (z0 : Fin 1) (h0 : (stage0_0 z0).IsWhole)
    (arg2 : Memref sig .tc .vmem S4096x512 .fp8e5m2) (harg2 : arg2.IsWhole)
    (arg3 : Memref sig .tc .smem S1 .f32) (harg3 : arg3.IsWhole) (arg4 : Memref sig .tc .smem S1 .f32) (harg4 : arg4.IsWhole)
    (arg5 : Memref sig .tc .vmem S128x512 .f32) (harg5 : arg5.IsWhole) :
    cc0_body (F := F) i (stage0_0 z0) h0 arg2 harg2 arg3 harg3 arg4 harg4 arg5 harg5
        xsM (Memref.isWhole_whole _) xtM (Memref.isWhole_whole _) cc0_scratch2 cc0_scratch3
      = .op .deviceId fun d0 =>
          if h : k0_cond1 i = 1#1 then exchange i d0 h (tile arg2 arg3 arg4 arg5) else tile arg2 arg3 arg4 arg5 := by
  obtain rfl : z0 = 0 := Subsingleton.elim _ _
  exact body_eq i arg2 harg2 arg3 harg3 arg4 harg4 arg5 harg5

/-! ## The body, at any memrefs -/

section Run
variable (c : Dev nD) (arg2 : Memref sig .tc .vmem S4096x512 .fp8e5m2) (arg3 arg4 : Memref sig .tc .smem S1 .f32) (arg5 : Memref sig .tc .vmem S128x512 .f32)
  (X : Dev nD → XsT F) (x2 : S4096x512.Idx → Elt F .fp8e5m2) (x3 x4 : S1.Idx → Elt F .f32)

abbrev res : S128x512.Idx → Elt F .f32 := k0_pay1 x2 (gathered X c) (x3 (Shape.Idx.first Nat.one_pos)) (x4 (Shape.Idx.first Nat.one_pos))

theorem run_first (i : grid0.Coords) (h : k0_cond1 i = 1#1) (W : Waits sig Unit) (Kt : PUnit → sProp 𝕄) :
    iprop((start X c ∗ (∃ f, ((c : Thread nD τ).loc cc0_scratch0) ↦{fullShare} f) ∗ ∃ f, ((c : Thread nD τ).loc cc0_scratch1) ↦{fullShare} f)
        ∗ owes (c : Thread nD τ) (O₀ c) W
        ∗ owns (c : Thread nD τ) xM fullShare (X c) ∗ owns (c : Thread nD τ) arg2 fullShare x2
        ∗ owns (c : Thread nD τ) arg3 fullShare x3 ∗ owns (c : Thread nD τ) arg4 fullShare x4 ∗ ∃ x, owns (c : Thread nD τ) arg5 fullShare x)
      ⊢ iprop((((((c : Thread nD τ).loc cc0_scratch0) ↦{fullShare} (X c)) ∗ (((c : Thread nD τ).loc cc0_scratch1) ↦{fullShare} (gathered X c)) ∗ zeros (F := F) c)
          -∗ (∃ W', owes (c : Thread nD τ) 0 W')
          -∗ (owns (c : Thread nD τ) xM fullShare (X c) ∗ owns (c : Thread nD τ) arg2 fullShare x2
            ∗ owns (c : Thread nD τ) arg3 fullShare x3 ∗ owns (c : Thread nD τ) arg4 fullShare x4 ∗ owns (c : Thread nD τ) arg5 fullShare (res c X x2 x3 x4)) -∗ Kt ⟨⟩)
        -∗ WP c (exchange i c h (tile arg2 arg3 arg4 arg5)) Kt) := by
  unfold start
  iintro ⟨⟨⟨⟨%K, Hg⟩, Hc, #Hlev⟩, Hxs, Hxt⟩, HO, Hx, H2, H3, H4, H5⟩ Hk
  ihave Hx2 := (Entails.of_eq (owns_whole_eq (F := F) c cc0_stg0_0 (X c))) $$ Hx
  icases Hx2 with ⟨%f, %hf, Hx⟩
  subst hf
  iapply (wp_exchange X K c i h W) $$ [Hg Hc HO Hx Hxs Hxt]
  · isplitl [Hg]; · iexact Hg
    isplitl [Hc]; · iexact Hc
    isplitr; · iexact Hlev
    isplitl [HO]; · iexact HO
    isplitl [Hx]; · iexact Hx
    isplitl [Hxs] <;> iassumption
  iintro %W' ⟨HO, Hx, Hxs, Hxt, Hz⟩
  iapply (wp_tile c arg2 arg3 arg4 arg5 x2 (gathered X c) x3 x4 Kt) $$ [H2 Hxt H3 H4 H5]
  · isplitl [H2]; · iexact H2
    isplitl [Hxt]; · iexact Hxt
    isplitl [H3]; · iexact H3
    isplitl [H4] <;> iassumption
  iintro ⟨H2, Hxt, H3, H4, H5⟩
  iapply Hk $$ [Hxs Hxt Hz] [HO]
  · isplitl [Hxs]; · iexact Hxs
    isplitl [Hxt] <;> iassumption
  · iexists W'; iexact HO
  isplitl [Hx]
  · rw [owns_whole_eq]; iexists _; isplitr; · (ipureintro; rfl)
    iexact Hx
  isplitl [H2]; · iexact H2
  isplitl [H3]; · iexact H3
  isplitl [H4] <;> iassumption

theorem run_later (Kt : PUnit → sProp 𝕄) :
    iprop(((((c : Thread nD τ).loc cc0_scratch0) ↦{fullShare} (X c)) ∗ (((c : Thread nD τ).loc cc0_scratch1) ↦{fullShare} (gathered X c)) ∗ zeros (F := F) c)
        ∗ owns (c : Thread nD τ) arg2 fullShare x2
        ∗ owns (c : Thread nD τ) arg3 fullShare x3 ∗ owns (c : Thread nD τ) arg4 fullShare x4 ∗ ∃ x, owns (c : Thread nD τ) arg5 fullShare x)
      ⊢ iprop((((((c : Thread nD τ).loc cc0_scratch0) ↦{fullShare} (X c)) ∗ (((c : Thread nD τ).loc cc0_scratch1) ↦{fullShare} (gathered X c)) ∗ zeros (F := F) c)
          -∗ (owns (c : Thread nD τ) arg2 fullShare x2
            ∗ owns (c : Thread nD τ) arg3 fullShare x3 ∗ owns (c : Thread nD τ) arg4 fullShare x4 ∗ owns (c : Thread nD τ) arg5 fullShare (res c X x2 x3 x4)) -∗ Kt ⟨⟩)
        -∗ WP c (tile arg2 arg3 arg4 arg5) Kt) := by
  iintro ⟨⟨Hxs, Hxt, Hz⟩, H2, H3, H4, H5⟩ Hk
  iapply (wp_tile c arg2 arg3 arg4 arg5 x2 (gathered X c) x3 x4 Kt) $$ [H2 Hxt H3 H4 H5]
  · isplitl [H2]; · iexact H2
    isplitl [Hxt]; · iexact Hxt
    isplitl [H3]; · iexact H3
    isplitl [H4] <;> iassumption
  iintro ⟨H2, Hxt, H3, H4, H5⟩
  iapply Hk $$ [Hxs Hxt Hz]
  · isplitl [Hxs]; · iexact Hxs
    isplitl [Hxt] <;> iassumption
  isplitl [H2]; · iexact H2
  isplitl [H3]; · iexact H3
  isplitl [H4] <;> iassumption

end Run

end Cert.A2A

end
-- ==== Proof.Oblig.lean ====
/-
The body obligation of the pipeline, at every point.
-/
module

public import proofs.«01_k».proof.Proof.Body

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (c : Dev nD)

/-- The first window's block is the same at every point. -/
theorem iblk0_const (t : Fin cfg0.N) : iblk m c 0 t = xblk m c := rfl

/-- What the pipeline hands the body at point `t`, and what it takes back. -/
def pre (t : Fin cfg0.N) : sProp 𝕄 :=
  iprop(ΦN m c t.val ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d)))
def post (t : Fin cfg0.N) : sProp 𝕄 :=
  iprop(Φ₁ m c ∗ (dats m 0 c).owesAt () t.succ
    ∗ owns (c : Thread nD τ) (st0_0 t) fullShare (iblk m c 0 t)
    ∗ owns (c : Thread nD τ) (st0_1 t) fullShare (iblk m c 1 t)
    ∗ owns (c : Thread nD τ) (st0_2 t) fullShare (iblk m c 2 t)
    ∗ owns (c : Thread nD τ) (st0_3 t) fullShare (iblk m c 3 t)
    ∗ owns (c : Thread nD τ) (st0_4 t) fullShare (outAt m c t))

theorem st0_x (t : Fin cfg0.N) : st0_0 t = xM := stage_x ((cfg0.slots t 0).cast nbuf0_0)

/-- The body's text at point `t`. -/
theorem body_text (t : Fin cfg0.N) : bodyAt0 (F := F) t = .op .deviceId fun d0 =>
    if h : k0_cond1 (grid0.coords t) = 1#1 then exchange (grid0.coords t) d0 h (tile (st0_1 t) (st0_2 t) (st0_3 t) (st0_4 t))
    else tile (st0_1 t) (st0_2 t) (st0_3 t) (st0_4 t) :=
  body_at (grid0.coords t) ((cfg0.slots t 0).cast nbuf0_0) _ _ (hstage0_1 ((cfg0.slots t 1).cast nbuf0_1)) _ (hstage0_2 ((cfg0.slots t 2).cast nbuf0_2))
    _ (hstage0_3 ((cfg0.slots t 3).cast nbuf0_3)) _ (hstage0_4 ((cfg0.slots t 4).cast nbuf0_4))

theorem sound (t : Fin cfg0.N) : pre m c t ⊢ wp frame (wpE (defs₀ (F := F)) 𝒱₀ c none) Set.univ (bodyAt0 t) (fun _ => post m c t) := by
  rw [body_text, wp_deviceId]
  unfold pre post
  rw [st0_x]
  simp only [before_0, before_1, before_2, before_3]
  unfold Dat.owesAt Pipeline.owesWithin
  rw [show (dats m 0 c).owed t.castSucc = owN c t.val from rfl, show (dats m 0 c).owed t.succ = 0 from rfl]
  by_cases h : k0_cond1 (grid0.coords t) = 1#1
  · rw [dif_pos h, (cond_at t).mp h]
    unfold ΦN owN Φ₀ Φ₁ outAt
    iintro ⟨HΦ, ⟨%W, %hW, HO⟩, ⟨%d0, H0⟩, ⟨%d1, H1⟩, ⟨%d2, H2⟩, ⟨%d3, H3⟩, ⟨%d4, H4⟩⟩
    iapply (run_first c (st0_1 t) (st0_2 t) (st0_3 t) (st0_4 t) (xblk m) (iblk m c 1 t) (iblk m c 2 t) (iblk m c 3 t) (grid0.coords t) h W _)
      $$ [HΦ HO H0 H1 H2 H3 H4]
    · isplitl [HΦ]; · iexact HΦ
      isplitl [HO]; · iexact HO
      isplitl [H0]; · iexact H0
      isplitl [H1]; · iexact H1
      isplitl [H2]; · iexact H2
      isplitl [H3]; · iexact H3
      iexists _; iexact H4
    iintro HΦ ⟨%W', HO⟩ H
    isplitl [HΦ]; · iexact HΦ
    isplitl [HO]
    · iexists W'
      isplitr; · ipureintro; exact fun _ _ => Or.inl trivial
      iexact HO
    iexact H
  · rw [dif_neg h]
    obtain ⟨n, hn⟩ := Nat.exists_eq_succ_of_ne_zero (fun h0 => h ((cond_at t).mpr h0))
    rw [hn]
    unfold ΦN owN Φ₁ outAt
    iintro ⟨HΦ, ⟨%W, %hW, HO⟩, ⟨%d0, H0⟩, ⟨%d1, H1⟩, ⟨%d2, H2⟩, ⟨%d3, H3⟩, ⟨%d4, H4⟩⟩
    iapply (run_later c (st0_1 t) (st0_2 t) (st0_3 t) (st0_4 t) (xblk m) (iblk m c 1 t) (iblk m c 2 t) (iblk m c 3 t) _)
      $$ [HΦ H1 H2 H3 H4]
    · isplitl [HΦ]; · iexact HΦ
      isplitl [H1]; · iexact H1
      isplitl [H2]; · iexact H2
      isplitl [H3]; · iexact H3
      iexists _; iexact H4
    iintro HΦ H
    isplitl [HΦ]; · iexact HΦ
    isplitl [HO]
    · iexists W
      isplitr; · ipureintro; exact fun _ _ => Or.inl trivial
      iexact HO
    isplitl [H0]; · iexact H0
    iexact H

set_option maxRecDepth 4000 in
theorem body_obligation : BodyObligation (dats m 0 c) (defs₀ (F := F)) 𝒱₀ () Set.univ := fun t => by
  rw [bigSep_W0, bigSep_W0]
  exact sound m c t

end Cert.A2A

end
-- ==== Proof.Launch.lean ====
/-
The launch: what each device is dealt, the tokens handed to their payers, the credit for what is owed, and the run of
the whole program.
-/
module

public import proofs.«01_k».proof.Proof.Oblig
public import Idealize.ShloMosaic.Lib.Pipeline.CollectiveSegs

@[expose] public section

set_option synthInstance.maxSize 4096

noncomputable section

namespace Cert.A2A

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

theorem own_scoped : ∀ p, (osem p).isScoped .tc = true := by decide +kernel
theorem own_disj : ∀ p w s, osem p ≠ .dma ((cfg0.spec w).sem s) := by decide +kernel
theorem ownSemFacts : Pipeline.OwnSemFacts cfg0.spec osem := ⟨own_scoped, osem_inj, own_disj⟩

theorem share_eq (c : Dev nD) (w : Fin cfg0.W) : (dats m 0 c).share w = fullShare := by unfold Dat.share; split <;> rfl

/-! ## The tokens -/

/-- Which duty of which of its own cells: of the barrier, of a landing, of a sending. -/
abbrev ownTok (p : Dev nD × Fin 3 × Fin 31) : GSem nD τ sig × ℕ × Fin 31 := match p.2.1 with
  | 0 => (barCell p.1, 0, p.2.2)
  | 1 => (recvCell p.1 (pe p.1 p.2.2), 0, 0)
  | 2 => (sendCell p.1 p.2.2.succ, 0, 0)

theorem kcell_dev {p q : Dev nD × CK} (h : kcell p = kcell q) : p.1 = q.1 := congrArg Prod.fst (kcell_inj h)
theorem ownTok_inj : Function.Injective ownTok := by
  rintro ⟨c, j, r⟩ ⟨c', j', r'⟩ h
  fin_cases j <;> fin_cases j' <;> (have h1 := kcell_inj (congrArg Prod.fst h); simp only [Prod.mk.injEq, Option.some.injEq, reduceCtorEq, and_false, false_and, Bool.true_eq_false, Bool.false_eq_true] at h1)
  · obtain rfl := h1.1
    have h2 : r = r' := congrArg (fun x : GSem nD τ sig × ℕ × Fin 31 => x.2.2) h
    subst h2; rfl
  · obtain ⟨rfl, -, h2⟩ := h1
    obtain rfl := pe_inj c h2; rfl
  · obtain ⟨rfl, -, h2⟩ := h1
    obtain rfl := Fin.succ_injective 31 h2; rfl

def cells₀ : Finset (GSem nD τ sig) := Finset.univ.map ⟨kcell, kcell_inj⟩
def toks₀ : Finset (GSem nD τ sig × ℕ × Fin 31) := Finset.univ.map ⟨ownTok, ownTok_inj⟩
def u₀ : UU := (initOf (Pipeline.cells cfgs cellOf_inj) (Pipeline.launchToks cfgs cellOf_inj), initOf cells₀ toks₀)

/-- The tokens of a device's own cells. -/
def dealt (c : Dev nD) : sProp 𝕄 := iprop(
  (bigSep Finset.univ fun r : Fin 31 => dutyTok ER (barCell c) 0 r)
    ∗ (bigSep Finset.univ fun r : Fin 31 => dutyTok ER (recvCell c (pe c r)) 0 0)
    ∗ bigSep Finset.univ fun r : Fin 31 => dutyTok ER (sendCell c r.succ) 0 0)

/-- What the launch deals a device. -/
def deal (c : Dev nD) : sProp 𝕄 :=
  iprop((bigSep Finset.univ fun k : CK => roundState ER (rd (xblk m)) (kcell (c, k)) 0)
    ∗ (bigSep Finset.univ fun k : CK => iprop(atPos ER (kcell (c, k)) 0 ∅ 0 ∗ reached ER (kcell (c, k)) 0)) ∗ dealt c)
def held (c : Dev nD) : sProp 𝕄 := iprop(∃ K, ghost (xblk m) K c)

theorem cells_deal (Φ : GSem nD τ sig → sProp 𝕄) :
    bigSep cells₀ Φ = bigSep Finset.univ fun c : Dev nD => bigSep Finset.univ fun k : CK => Φ (kcell (c, k)) := by
  unfold cells₀; rw [bigSep_map, bigSep_univ_prod]; rfl
theorem toks_deal : bigSep toks₀ (fun x => (dutyTok ER x.1 x.2.1 x.2.2 : sProp 𝕄)) = bigSep Finset.univ fun c : Dev nD => dealt c := by
  unfold toks₀; rw [bigSep_map, bigSep_univ_prod]
  refine bigSep_congr fun c _ => ?_
  rw [bigSep_univ_prod, bigSep_univ_eq_bigSepL [0, 1, 2] (by decide) (by decide)]; rfl

theorem fund_exchange : BI.own (ER (initOf cells₀ toks₀)) ⊢ (|==> bigSep Finset.univ (deal m) : sProp 𝕄) := by
  iintro HX
  imod (Rounds.fund ER (rd (xblk m)) cells₀ toks₀) $$ HX with ⟨Hst, Hr, Hat, Htok⟩
  imodintro
  ihave Hst' := (Entails.of_eq (cells_deal fun g => roundState ER (rd (xblk m)) g 0)) $$ Hst
  ihave Hat' := (Entails.of_eq (cells_deal fun g => atPos ER g 0 ∅ 0)) $$ Hat
  ihave Hr' := (Entails.of_eq (cells_deal fun g => reached ER g 0)) $$ Hr
  ihave Htok' := (Entails.of_eq toks_deal) $$ Htok
  unfold deal; simp only [bigSep_sep']
  isplitl [Hst']; · iexact Hst'
  isplitl [Hat' Hr']
  · isplitl [Hat'] <;> iassumption
  iexact Htok'

theorem unscoped_eq (c : Dev nD) : (unscopedSems0 c : sProp 𝕄) = semVal (barCell c) 0 := by
  unfold unscopedSems0; rw [bigSep_eq_bigSepL_of_eq [SemLoc.reg barS] (by decide +kernel) (by decide)]; rfl
/-- The launch's counters at zero are those of the exchange. -/
theorem zeros_eq (c : Dev nD) :
    iprop(unscopedSems0 c ∗ Pipeline.ownSems0 (Ix := Unit) (Name := ℕ) (U := UU) (Lvl := ℕ) (Val := Elt F) (τ := τ) osem c) = (zeros c : sProp 𝕄) := by
  unfold zeros; rw [split_ck, unscoped_eq]; rfl

theorem alloc_one (c : Dev nD) :
    iprop(Pipeline.ownSems0 (Ix := Unit) (Name := ℕ) (U := UU) (Lvl := ℕ) (Val := Elt F) (τ := τ) osem c ∗ unscopedSems0 c ∗ deal m c)
      ⊢ |={Set.univ}=> iprop((bigSep Finset.univ fun k => iprop(∃ κ : ℕ, cellInv ER (rd (xblk m)) κ (kcell (c, k))))
          ∗ (bigSep Finset.univ fun k => iprop(atPos ER (kcell (c, k)) 0 ∅ 0 ∗ reached ER (kcell (c, k)) 0)) ∗ dealt c) := by
  unfold deal
  iintro ⟨Hos, Hus, Hst, Hat, Htok⟩
  ihave Hv := (Entails.of_eq (zeros_eq (F := F) c)) $$ [Hos Hus]
  · isplitl [Hus] <;> iassumption
  imod (show iprop(zeros (F := F) c ∗ bigSep Finset.univ fun k : CK => roundState ER (rd (xblk m)) (kcell (c, k)) 0)
      ⊢ (|={Set.univ}=> bigSep Finset.univ fun k => iprop(∃ κ : ℕ, cellInv ER (rd (xblk m)) κ (kcell (c, k))) : sProp 𝕄) from by
        unfold zeros
        rw [← bigSep_sep']
        exact (bigSep_mono fun k _ => (Rounds.body_intro ER (rd (xblk m)) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- Over the other end of every pair. -/
theorem turned (Φ : Dev nD → Fin 31 → sProp 𝕄) :
    (bigSep Finset.univ fun c => bigSep Finset.univ fun r => Φ c r)
      = bigSep Finset.univ fun c => bigSep Finset.univ fun r : Fin 31 => Φ (pe c r) r.rev := by
  rw [← bigSep_univ_prod (fun p : Dev nD × Fin 31 => Φ p.1 p.2), bigSep_univ_equiv turn, bigSep_univ_prod]; rfl

/-- The tokens, dealt to the owners, go to the payers. -/
theorem toks_turn : (bigSep Finset.univ fun c : Dev nD => (dealt c : sProp 𝕄)) = bigSep Finset.univ fun c : Dev nD => toks c := by
  unfold dealt toks
  rw [bigSep_sep', bigSep_sep', bigSep_sep', bigSep_sep', turned fun c r => dutyTok ER (barCell c) 0 r, turned fun c r => dutyTok ER (recvCell c (pe c r)) 0 0]
  simp only [pe_pe, chain_offs]

theorem with_records {I : Type} [DecidableEq I] {S : Finset I} {R : sProp 𝕄} [BI.Persistent R] {Φ Ψ : I → sProp 𝕄}
    (h : ∀ i ∈ S, iprop(R ∗ Φ i) ⊢ Ψ i) : iprop(R ∗ bigSep S Φ) ⊢ bigSep S Ψ :=
  (sep_mono_left (BI.bigSep_of_persistent S R)).trans (by rw [← bigSep_sep']; exact bigSep_mono h)

theorem hold_one (K : Dev nD × CK → ℕ) (c : Dev nD) : iprop(records (xblk m) K ∗ (positions (F := F) c ∗ toks c)) ⊢ held m c := by
  unfold held ghost
  iintro H; iexists K; iexact H

theorem regroup :
    (bigSep Finset.univ fun c : Dev nD => iprop((bigSep Finset.univ fun k => iprop(∃ κ : ℕ, cellInv ER (rd (xblk m)) κ (kcell (c, k))))
          ∗ (bigSep Finset.univ fun k => iprop(atPos ER (kcell (c, k)) 0 ∅ 0 ∗ reached ER (kcell (c, k)) 0)) ∗ dealt c) : sProp 𝕄)
      ⊢ bigSep Finset.univ (held m) := by
  rw [bigSep_sep', bigSep_sep', toks_turn, ← bigSep_univ_prod (fun p : Dev nD × CK => iprop(∃ κ : ℕ, cellInv ER (rd (xblk m)) κ (kcell p))),
    bigSep_congr (s := Finset.univ) (fun (c : Dev nD) _ => bigSep_sep' Finset.univ (fun k : CK => (atPos ER (kcell (c, k)) 0 ∅ 0 : sProp 𝕄)) (fun k => reached ER (kcell (c, k)) 0)),
    bigSep_sep', ← bigSep_univ_prod (fun p : Dev nD × CK => (reached ER (kcell p) 0 : sProp 𝕄))]
  iintro ⟨HI, ⟨Hat, #HR⟩, Htok⟩
  ihave HK := (BI.bigSep_exists_pi Finset.univ (fun (p : Dev nD × CK) (κ : ℕ) => (cellInv ER (rd (xblk m)) κ (kcell p) : sProp 𝕄))) $$ HI
  icases HK with ⟨%K, #HI⟩
  iapply (with_records (R := records (xblk m) K) fun c _ => hold_one m K c)
  isplitr
  · unfold records; isplitl; · iexact HI
    iexact HR
  · iapply (Entails.of_eq (bigSep_sep' Finset.univ (fun c : Dev nD => positions (F := F) c) toks).symm)
    isplitl [Hat]; · iexact Hat
    iexact Htok

theorem glob : (bigSep Finset.univ fun c => iprop(Pipeline.ownSems0 (Ix := Unit) (Name := ℕ) (U := UU) (Lvl := ℕ) (Val := Elt F) (τ := τ) osem c ∗ unscopedSems0 c ∗ deal m c) : sProp 𝕄)
    ⊢ |={Set.univ}=> bigSep Finset.univ (held m) :=
  ((bigSep_mono fun c _ => alloc_one m c).trans (bigSep_fupd _ _)).trans (BI.fupd_mono (regroup m))

/-! ## The credit -/

theorem owB_at (d : Dev nD) (g : GSem nD τ sig) : ∀ l : List (Fin 31),
    owB d l g () = (l.map fun r => if g = barCell (pe d r) then 1 else 0).sum
  | [] => rfl
  | r :: l => by
    unfold owB
    rw [Pi.add_apply, Finsupp.add_apply, tallyAt_apply, owB_at d g l, List.map_cons, List.sum_cons, Nat.add_comm]
    simp only [and_true]
theorem owR_at (d : Dev nD) (g : GSem nD τ sig) : ∀ l : List (Fin 31),
    owR d l g () = (l.map fun r => if g = recvCell (pe d r) d then NN else 0).sum
  | [] => rfl
  | r :: l => by
    unfold owR
    rw [Pi.add_apply, Finsupp.add_apply, tallyAt_apply, owR_at d g l, List.map_cons, List.sum_cons, Nat.add_comm]
    simp only [and_true]
theorem sum_offs (f : Fin 31 → ℕ) : (offs.map f).sum = ∑ r, f r := by
  rw [← List.sum_toFinset f offs_nodup]
  exact Finset.sum_congr (Finset.eq_univ_iff_forall.mpr fun r => List.mem_toFinset.mpr (mem_offs r)) fun _ _ => rfl
theorem owed_at (d : Dev nD) (g : GSem nD τ sig) :
    O₀ d g () = (∑ r, if g = recvCell (pe d r) d then NN else 0) + ∑ r, if g = barCell (pe d r) then 1 else 0 := by
  unfold O₀
  rw [Pi.add_apply, Finsupp.add_apply, owB_at, owR_at, sum_offs, sum_offs]

theorem bar_iff {a b : Dev nD} : barCell a = barCell b ↔ a = b := ⟨kcell_dev, fun h => h ▸ rfl⟩
theorem recv_iff {a b : Dev nD} {j k : Fin 32} : recvCell a j = recvCell b k ↔ a = b ∧ j = k :=
  ⟨fun h => by
    have h1 := kcell_inj h
    simp only [Prod.mk.injEq, Option.some.injEq, true_and] at h1
    exact h1, fun ⟨h, h'⟩ => h ▸ h' ▸ rfl⟩
theorem bar_ne {a b : Dev nD} {j : Fin 32} : barCell a ≠ recvCell b j := fun h => by
  have h1 := congrArg Prod.snd (kcell_inj h)
  cases h1

/-- Every peer owes a device's barrier one unit. -/
theorem credit_bar (c : Dev nD) : ∑ d, O₀ d (barCell c) () = 31 := by
  simp only [owed_at, if_neg bar_ne, Finset.sum_const_zero, Nat.zero_add, bar_iff]
  rw [← Fintype.sum_prod_type' (f := fun d r => if c = pe d r then 1 else 0), ← Equiv.sum_comp turn]
  show ∑ p : Dev nD × Fin 31, (if c = pe (pe p.1 p.2) p.2.rev then 1 else 0) = 31
  simp only [pe_pe]
  rw [Fintype.sum_prod_type, Finset.sum_comm]
  simp only [Finset.sum_ite_eq, Finset.mem_univ, if_true]
  rfl
/-- The peer owes a landing semaphore its copy. -/
theorem credit_recv (c : Dev nD) (s : Fin 31) : ∑ d, O₀ d (recvCell c (pe c s)) () = NN := by
  simp only [owed_at, if_neg bar_ne.symm, Finset.sum_const_zero, Nat.add_zero, recv_iff]
  rw [Finset.sum_eq_single (pe c s), Finset.sum_eq_single s.rev]
  · exact if_pos ⟨(pe_pe c s).symm, rfl⟩
  · intro r _ hr
    refine if_neg fun h => hr (pe_inj (pe c s) ?_)
    rw [pe_pe]; exact h.1.symm
  · intro h; exact absurd (Finset.mem_univ _) h
  · intro d _ hd
    exact Finset.sum_eq_zero fun r _ => if_neg fun h => hd h.2.symm
  · intro h; exact absurd (Finset.mem_univ _) h

theorem tally_of (g : GSem nD τ sig) (n : ℕ) (h : ∑ d, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- A device's landing semaphores, by the offset of the peer. -/
theorem landSem_inj (c : Dev nD) : Function.Injective fun r : Fin 31 => osem (true, pe c r) := fun r r' h =>
  pe_inj c (congrArg Prod.snd (osem_inj h))

theorem credited (c : Dev nD) : (Pipeline.launchCred O₀ c : sProp 𝕄) ⊢ creds c := by
  unfold Pipeline.launchCred creds
  rw [bigSep_univ_at _ (SemLoc.reg barS), tally_of (barCell c) 31 (credit_bar c), ← chain_offs]
  refine sep_mono_right ?_
  rw [bigSep_congr fun r _ => (congrArg cred (tally_of (recvCell c (pe c r)) NN (credit_recv c r))).symm]
  refine BIBase.Entails.trans (bigSep_subset (t := Finset.univ.map ⟨_, landSem_inj c⟩) fun sm h => ?_) ?_
  · obtain ⟨r, -, rfl⟩ := Finset.mem_map.mp h
    exact Finset.mem_erase.mpr ⟨osem_ne_bar (true, pe c r), Finset.mem_univ _⟩
  · rw [bigSep_map]; iintro H; iexact H

/-! ## The side conditions -/

theorem start_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ held m c)
      ⊢ |={Set.univ}=> iprop(start (xblk m) c ∗ emp) := by
  iintro ⟨-, Hlev, Hcr, -, HG⟩
  ihave Hc := (credited (F := F) c) $$ Hcr
  imodintro
  unfold start held
  isplitl
  · isplitl [HG]; · iexact HG
    isplitl [Hc]; · iexact Hc
    iexact Hlev
  · iempintro

theorem enter (c : Dev nD) :
    iprop(start (xblk m) c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  iexact Hr

theorem leave (c : Dev nD) :
    (dats m 0 c).Φ (Fin.last cfg0.N) ⊢ iprop(unscopedSems0 c ∗ Pipeline.ownSems0 osem c ∗ Pipeline.scopedRest cfg0.spec c) := by
  rw [show (dats m 0 c).Φ (Fin.last cfg0.N) = Φ₁ m c from rfl, scopedRest0_eq]
  unfold Φ₁
  rw [← zeros_eq]
  iintro ⟨Hs, Ht, ⟨Hu, Ho⟩⟩
  isplitl [Hu]; · iexact Hu
  isplitl [Ho]; · iexact Ho
  isplitl [Hs]
  · iexists _; iexact Hs
  · iexists _; iexact Ht

theorem stage_ne : ∀ (w : Fin cfg0.W) s j, (cfg0.spec w).sem s ≠ rS j := by decide +kernel
theorem waits (c : Dev nD) : (levAts L lv : sProp 𝕄) ⊢ Pipeline.cellsWaits cfgs (dats m) () 0 c :=
  Pipeline.cellsWaits_intro cfgs (dats m) () 0 c fun w s t =>
    mayWait_stage c _ (stage_ne w s) _ (by
      rcases t with ⟨_ | _, ht⟩
      · exact Or.inl rfl
      · exact Or.inr rfl)

/-! ## The run -/

/-- What a window's array holds in the end. -/
def finalA (c : Dev nD) (w : Fin cfg0.W) : Buf (Elt F) ((cfg0.win w).arr.view.loc (c : Thread nD τ)) := (dats m 0 c).arrAt w cfg0.N
def QC : PUnit × MemSt nD τ sig (Elt F) → Prop := fun r =>
  ∀ c : Dev nD, ∀ w : Fin cfg0.W, r.2.mem ((cfg0.win w).arr.view.loc (c : Thread nD τ)) = finalA m c w

set_option maxRecDepth 8000 in
/-- For any float values, from any memory with zero counters: every weakly fair run of the 32 devices ends, with each
    array at its final contents and every semaphore counter at zero. -/
theorem run_main : θ_run defs (onTc (τ := τ) (main (F := F))) (s₀ m ρ) (fun r => QC m r ∧ r.2.sem = fun _ => 0) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := O₀) (howed₀ := fun _ => rfl) (howedN := fun _ => rfl)
    (L := L) (lv := lv) (hL := L_of_ne) (hwaits := waits m)
    (G := deal m) (G' := held m) (u₀ := u₀)
    (hu₀ := by
      unfold u₀
      iintro Hu
      ihave H := (ownU_pair _ _) $$ Hu
      icases H with ⟨HP, HX⟩
      imod (fund_exchange m) $$ HX with HG
      imodintro
      isplitl [HP] <;> iassumption)
    (hglob := glob m)
    (hA := fun _ _ => rfl) (hpf := fun _ k => k.elim0)
    (X := start (xblk m)) (Y := fun c => unscopedSems0 c) (Z := fun _ => iprop(emp))
    (hX := start_intro m ρ) (hin := enter m) (hout := leave m)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments keep their contents. -/
theorem finalA_in (c : Dev nD) (w : Fin cfg0.W) (hw : (cfg0.win w).isOut = false) :
    finalA m c w = m ((cfg0.win w).arr.view.loc (c : Thread nD τ)) :=
  (dats (F := F) m 0 c).arrAt_in w hw _

end Cert.A2A

end
-- ==== Proof.KernelValue.lean ====
/-
Each device's result array after the run: tile `t` of it is what the body left at grid point `t`.
-/
module

public import proofs.«01_k».proof.Proof.Launch
public import Idealize.ShloMosaic.Lib.Pipeline.Value
public import Idealize.ShloMosaic.Lib.Pointwise

@[expose] public section

noncomputable section

namespace Cert.A2A

open Cert.KernelIdeal Cert.KernelIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-- The arguments of device `c`. -/
abbrev argX (c : Dev nD) : Vec F S4096x128 .fp8e5m2 := m ((c : Thread nD τ).loc main_arg0)
abbrev argW (c : Dev nD) : Vec F S4096x8192 .fp8e5m2 := m ((c : Thread nD τ).loc main_arg1)
abbrev argP (c : Dev nD) : Vec F S1 .f32 := m ((c : Thread nD τ).loc main_arg2)
abbrev argQ (c : Dev nD) : Vec F S1 .f32 := m ((c : Thread nD τ).loc main_arg3)

theorem index_1 : ∀ t : Fin cfg0.N, win0_1.index t 0 = 0 ∧ win0_1.index t 1 = t.val :=
  (by decide +kernel : ∀ t : Fin grid0.N, win0_1.index t 0 = 0 ∧ win0_1.index t 1 = t.val)
theorem index_2 : ∀ t : Fin cfg0.N, win0_2.index t 0 = 0 := (by decide +kernel : ∀ t : Fin grid0.N, win0_2.index t 0 = 0)
theorem index_3 : ∀ t : Fin cfg0.N, win0_3.index t 0 = 0 := (by decide +kernel : ∀ t : Fin grid0.N, win0_3.index t 0 = 0)
theorem index_4 : ∀ t : Fin cfg0.N, win0_4.index t 0 = 0 ∧ win0_4.index t 1 = t.val :=
  (by decide +kernel : ∀ t : Fin grid0.N, win0_4.index t 0 = 0 ∧ win0_4.index t 1 = t.val)

theorem xblk_eq (c : Dev nD) : (xblk m c : Vec F S4096x128 .fp8e5m2) = argX m c := by
  have hz : (fun a => win0_0.index t0_0 a * main_arg0.ty.shape.size a) = fun _ => 0 := funext fun a => by fin_cases a <;> decide
  exact Memref.read_access_unit_zero (Elt F) main_arg0 hz (fun a => by rw [congrFun hz a]; simp) (argX m c)

/-- Column `n` of tile `t`. -/
def colOf (t : Fin cfg0.N) (n : Fin 512) : Fin 8192 := ⟨512 * t.val + n.val, by have : t.val < 16 := t.isLt; omega⟩

theorem iblk_1 (c : Dev nD) (t : Fin cfg0.N) (k : Fin 4096) (n : Fin 512) :
    (iblk m c 1 t : Vec F S4096x512 .fp8e5m2) (ix2 k n) = argW m c (ix2 k (colOf t n)) := by
  unfold iblk
  rw [View.read_apply]
  show argW m c _ = argW m c _
  congr 1
  funext a
  apply Fin.ext
  match a with
  | ⟨0, _⟩ => show win0_1.index t 0 * 4096 + 1 * k.val = k.val; rw [(index_1 t).1]; omega
  | ⟨1, _⟩ => show win0_1.index t 1 * 512 + 1 * n.val = 512 * t.val + n.val; rw [(index_1 t).2]; omega
theorem iblk_2 (c : Dev nD) (t : Fin cfg0.N) :
    (iblk m c 2 t : Vec F S1 .f32) (Shape.Idx.first Nat.one_pos) = argP m c (Shape.Idx.first Nat.one_pos) := by
  unfold iblk
  rw [View.read_apply]
  show argP m c _ = argP m c _
  congr 1
  funext a
  match a with
  | ⟨0, _⟩ => exact Subsingleton.elim (α := Fin 1) _ _
theorem iblk_3 (c : Dev nD) (t : Fin cfg0.N) :
    (iblk m c 3 t : Vec F S1 .f32) (Shape.Idx.first Nat.one_pos) = argQ m c (Shape.Idx.first Nat.one_pos) := by
  unfold iblk
  rw [View.read_apply]
  show argQ m c _ = argQ m c _
  congr 1
  funext a
  match a with
  | ⟨0, _⟩ => exact Subsingleton.elim (α := Fin 1) _ _

/-- Which tile a column of the result is in, and where in it. -/
def tileOf (n : Fin 8192) : Fin cfg0.N := ⟨n.val / 512, Nat.div_lt_of_lt_mul n.isLt⟩
def inTile (n : Fin 8192) : Fin 512 := ⟨n.val % 512, Nat.mod_lt _ (by decide)⟩
theorem colOf_tile (n : Fin 8192) : colOf (tileOf n) (inTile n) = n := Fin.ext (Nat.div_add_mod n.val 512)
theorem tileOf_col (t : Fin cfg0.N) (n : Fin 512) : tileOf (colOf t n) = t :=
  Fin.ext (by show (512 * t.val + n.val) / 512 = t.val; omega)
theorem inTile_col (t : Fin cfg0.N) (n : Fin 512) : inTile (colOf t n) = n :=
  Fin.ext (by show (512 * t.val + n.val) % 512 = n.val; omega)

/-- The result: each tile at what its point left. -/
def result (c : Dev nD) : Vec F S128x8192 .f32 := fun i => outAt m c (tileOf (i 1)) (ix2 (i 0) (inTile (i 1)))

theorem flushed_eq (c : Dev nD) (t : Fin cfg0.N) (hf : (cfg0.win 4).flush t = true) :
    (dats m 0 c).flushed 4 t = ((cfg0.win 4).blk t).view.read (Elt F) (result m c : Buf (Elt F) ((c : Thread nD τ).loc main_v1)) := by
  refine funext fun (j : S128x512.Idx) => ?_
  rw [View.read_apply]
  have e : (((cfg0.win 4).blk t).view.emb j : S128x8192.Idx) = ix2 (j 0) (colOf t (j 1)) := funext fun a => Fin.ext (by
    match a with
    | ⟨0, _⟩ => show win0_4.index t 0 * 128 + 1 * (j 0).val = (j 0).val; rw [(index_4 t).1]; omega
    | ⟨1, _⟩ => show win0_4.index t 1 * 512 + 1 * (j 1).val = 512 * t.val + (j 1).val; rw [(index_4 t).2]; omega)
  show outAt m c t j = result m c _
  rw [e]
  have hr : ∀ (r : Fin 128) (n : Fin 512), result m c (ix2 r (colOf t n)) = outAt m c t (ix2 r n) := fun r n => by
    show outAt m c (tileOf (colOf t n)) (ix2 r (inTile (colOf t n))) = _
    rw [tileOf_col, inTile_col]
  exact (congrArg (outAt m c t) (eq_ix2 j)).trans (hr (j 0) (j 1)).symm

theorem final_eq (c : Dev nD) : finalA m c 4 = (result m c : Buf (Elt F) ((c : Thread nD τ).loc main_v1)) :=
  (dats m 0 c).arrAt_eq_of_cover 4 (result m c) (flushed_eq m c) fun i =>
    ⟨tileOf (i 1), flush0_4 _, by
      show i ∈ ((View.whole main_v1).slice (win0_4.rect (tileOf (i 1)))).set
      rw [View.set_slice_whole, Rect.mem_set_unit]
      intro a
      have h0 : (i 0 : Nat) < 128 := (i 0).isLt
      have h1 : (i 1 : Nat) < 8192 := (i 1).isLt
      match a with
      | ⟨0, _⟩ => show win0_4.index (tileOf (i 1)) 0 * 128 ≤ (i 0 : Nat) ∧ (i 0 : Nat) < win0_4.index (tileOf (i 1)) 0 * 128 + 128
                  rw [(index_4 _).1]; omega
      | ⟨1, _⟩ => show win0_4.index (tileOf (i 1)) 1 * 512 ≤ (i 1 : Nat) ∧ (i 1 : Nat) < win0_4.index (tileOf (i 1)) 1 * 512 + 512
                  rw [(index_4 _).2]
                  show (i 1 : Nat) / 512 * 512 ≤ (i 1 : Nat) ∧ (i 1 : Nat) < (i 1 : Nat) / 512 * 512 + 512
                  omega⟩

/-- The kernel's run: each device's result array at its closed form, the arguments unchanged, every counter at zero. -/
theorem run : θ_run defs (onTc (τ := τ) (main (F := F))) ⟨m, fun _ => 0, ρ⟩ fun r => (∀ c : Dev nD,
      r.2.mem ((c : Thread nD τ).loc main_v1) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0 :=
  (θ_run defs _ _).mono (fun _ h => ⟨fun c => ⟨(h.1 c 4).trans (final_eq m c), (h.1 c 0).trans (finalA_in m c 0 rfl), (h.1 c 1).trans (finalA_in m c 1 rfl),
    (h.1 c 2).trans (finalA_in m c 2 rfl), (h.1 c 3).trans (finalA_in m c 3 rfl)⟩, h.2⟩) (run_main m ρ)

end Cert.A2A

end
-- ==== Proof.RefValue.lean ====
/-
The reference's array after its run: its one block is the whole of it, made from the whole arguments.
-/
module

public import proofs.«01_k».proof.Proof.Pure
public import proofs.«01_k».proof.Proof.Gen.ReferenceIdeal.Value
public import Idealize.ShloMosaic.Lib.Tactic

@[expose] public section

noncomputable section

namespace Cert.A2A.Ref

open Cert.ReferenceIdeal Cert.ReferenceIdeal.Gen
open Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero2 : (![0, 0] : Fin 2 → Nat) = fun _ => 0 := funext fun a => by fin_cases a <;> rfl
theorem zero1 : (![0] : Fin 1 → Nat) = fun _ => 0 := funext fun a => by fin_cases a; rfl

/-- The body leaves its payload of the input blocks. -/
theorem out_eq (c : Dev nD) (a0 : Memref sig .tc .vmem S4096x4096 .fp8e5m2) (h0 : a0.IsWhole) (a1 : Memref sig .tc .vmem S4096x8192 .fp8e5m2) (h1 : a1.IsWhole)
    (a2 : Memref sig .tc .smem S1 .f32) (h2 : a2.IsWhole) (a3 : Memref sig .tc .smem S1 .f32) (h3 : a3.IsWhole) (a4 : Memref sig .tc .vmem S4096x8192 .f32) (h4 : a4.IsWhole)
    (x : Vec F S4096x4096 .fp8e5m2) (w : Vec F S4096x8192 .fp8e5m2) (p q : Vec F S1 .f32) :
    out0_A_4 c a0 h0 a1 h1 a2 h2 a3 h3 a4 h4 x w p q = k0_pay1 x w (p (Shape.Idx.first Nat.one_pos)) (q (Shape.Idx.first Nat.one_pos)) := by
  unfold out0_A_4
  rw [View.read_writes_eq_canon _ _ _ (cover0_A_4 c a0 h0 a1 h1 a2 h2 a3 h3 a4 h4 x w p q)]
  unfold kernelRun0_A
  dsimp only
  sl_unfold_words
  rw [View.canon_unit_zero zero2]
  simp only [View.readAt_eq_ld, h0.read_unread, h1.read_unread, h2.read_unread, h3.read_unread, View.ld_unit_zero (S := S4096x4096) zero2,
    View.ld_unit_zero (S := S4096x8192) zero2]
  have e (v : Vec F S1 .f32) : View.ld v (Rect.unit (s := S1) ![0] S1.size inb_S1_S1_0) = v := View.ld_unit_zero (S := S1) zero1 _ _
  exact congrArg₂ (k0_pay1 x w) (congrFun (e p) _) (congrFun (e q) _)

/-- The arguments of device `c`. -/
abbrev argX (c : Dev nD) : Vec F S4096x4096 .fp8e5m2 := m ((c : Thread nD τ).loc main_arg0)
abbrev argW (c : Dev nD) : Vec F S4096x8192 .fp8e5m2 := m ((c : Thread nD τ).loc main_arg1)
abbrev argP (c : Dev nD) : Vec F S1 .f32 := m ((c : Thread nD τ).loc main_arg2)
abbrev argQ (c : Dev nD) : Vec F S1 .f32 := m ((c : Thread nD τ).loc main_arg3)

theorem iblk_0 (c : Dev nD) : (iblk m c 0 t0_0 : Vec F S4096x4096 .fp8e5m2) = argX m c := by
  have hz : (fun a => win0_0.index t0_0 a * main_arg0.ty.shape.size a) = fun _ => 0 := funext fun a => by fin_cases a <;> decide
  exact Memref.read_access_unit_zero (Elt F) main_arg0 hz (fun a => by rw [congrFun hz a]; simp) (argX m c)
theorem iblk_1 (c : Dev nD) : (iblk m c 1 t0_0 : Vec F S4096x8192 .fp8e5m2) = argW m c := by
  have hz : (fun a => win0_1.index t0_0 a * main_arg1.ty.shape.size a) = fun _ => 0 := funext fun a => by fin_cases a <;> decide
  exact Memref.read_access_unit_zero (Elt F) main_arg1 hz (fun a => by rw [congrFun hz a]; simp) (argW m c)
theorem iblk_2 (c : Dev nD) : (iblk m c 2 t0_0 : Vec F S1 .f32) = argP m c := by
  have hz : (fun a => win0_2.index t0_0 a * main_arg2.ty.shape.size a) = fun _ => 0 := funext fun a => by fin_cases a; decide
  exact Memref.read_access_unit_zero (Elt F) main_arg2 hz (fun a => by rw [congrFun hz a]; simp) (argP m c)
theorem iblk_3 (c : Dev nD) : (iblk m c 3 t0_0 : Vec F S1 .f32) = argQ m c := by
  have hz : (fun a => win0_3.index t0_0 a * main_arg3.ty.shape.size a) = fun _ => 0 := funext fun a => by fin_cases a; decide
  exact Memref.read_access_unit_zero (Elt F) main_arg3 hz (fun a => by rw [congrFun hz a]; simp) (argQ m c)

/-- The result: the body's payload of the arguments. -/
def result (c : Dev nD) : Buf (Elt F) ((c : Thread nD τ).loc main_v0) :=
  k0_pay1 (argX m c) (argW m c) (argP m c (Shape.Idx.first Nat.one_pos)) (argQ m c (Shape.Idx.first Nat.one_pos))

theorem flushed_eq (c : Dev nD) (t : Fin cfg0.N) (hf : (cfg0.win 4).flush t = true) :
    (dats m 0 c).flushed 4 t = ((cfg0.win 4).blk t).view.read (Elt F) (result m c) := by
  obtain rfl : t = t0_0 := fin_N0 t
  rw [Cert.ReferenceIdeal.Value.flushed4_A]
  have e := out_eq c (ms0_0 t0_0) (hs0_0 t0_0) (ms0_1 t0_0) (hs0_1 t0_0) (ms0_2 t0_0) (hs0_2 t0_0) (ms0_3 t0_0) (hs0_3 t0_0) (ms0_4 t0_0) (hs0_4 t0_0)
    (iblk m c 0 t0_0) (iblk m c 1 t0_0) (iblk m c 2 t0_0) (iblk m c 3 t0_0)
  rw [iblk_0, iblk_1, iblk_2, iblk_3] at e
  have hz : (fun a => win0_4.index t0_0 a * main_v0.ty.shape.size a) = fun _ => 0 := funext fun a => by fin_cases a <;> decide
  have e' := (Memref.read_access_unit_zero (Elt F) main_v0 hz (fun a => by rw [congrFun hz a]; simp) (result m c)).symm
  rw [iblk_0, iblk_1, iblk_2, iblk_3]
  exact e.trans e'

theorem final_eq (c : Dev nD) : (dats m 0 c).arrAt 4 cfg0.N = result m c :=
  (dats m 0 c).arrAt_eq_of_cover 4 (result m c) (flushed_eq m c) fun i =>
    ⟨t0_0, (by decide +kernel : win0_4.flush t0_0 = true), by
      show i ∈ ((View.whole main_v0).slice (win0_4.rect t0_0)).set
      rw [View.set_slice_whole, Rect.mem_set_unit]
      intro a
      have h0 : (i 0 : Nat) < 4096 := (i 0).isLt
      have h1 : (i 1 : Nat) < 8192 := (i 1).isLt
      match a with
      | ⟨0, _⟩ => show win0_4.index t0_0 0 * win0_4.size 0 ≤ (i 0 : Nat) ∧ (i 0 : Nat) < win0_4.index t0_0 0 * win0_4.size 0 + win0_4.xsize (grid0.coords t0_0) 0
                  rw [show win0_4.index t0_0 0 * win0_4.size 0 = 0 from by decide +kernel, show win0_4.xsize (grid0.coords t0_0) 0 = 4096 from by decide +kernel]; omega
      | ⟨1, _⟩ => show win0_4.index t0_0 1 * win0_4.size 1 ≤ (i 1 : Nat) ∧ (i 1 : Nat) < win0_4.index t0_0 1 * win0_4.size 1 + win0_4.xsize (grid0.coords t0_0) 1
                  rw [show win0_4.index t0_0 1 * win0_4.size 1 = 0 from by decide +kernel, show win0_4.xsize (grid0.coords t0_0) 1 = 8192 from by decide +kernel]; omega⟩

/-- The reference's run: the result array at its closed form, the arguments unchanged. -/
theorem run : θ_run defs (onTc (τ := τ) (main (F := F))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun _ h c => ⟨(h c).1.trans (final_eq m c), (h c).2⟩) (Cert.ReferenceIdeal.Value.run_blocks m ρ)

end Cert.A2A.Ref

end
-- ==== Proof.Equal.lean ====
/-
The two programs' results over the extended reals: each device's array is its block of rows of the reference's.
-/
module

public import proofs.«01_k».proof.Defs
public import proofs.«01_k».proof.Proof.Pure
public import proofs.«01_k».proof.Proof.KernelValue
public import proofs.«01_k».proof.Proof.RefValue

@[expose] public section

noncomputable section

namespace Cert.A2A

open Idealize.ShloMosaic Idealize.ShloMosaic.TcCoe Idealize.SL.Sem

variable (m : (ℓ : Loc Cert.KernelIdeal.nD Cert.KernelIdeal.τ Cert.KernelIdeal.sig) → Buf (Elt Ideal) ℓ)
variable (m' : (ℓ : Loc Cert.ReferenceIdeal.nD Cert.ReferenceIdeal.τ Cert.ReferenceIdeal.sig) → Buf (Elt Ideal) ℓ)

/-- Row `r` of device `c`'s block of the result. -/
def rowOf (c : Fin 32) (r : Fin 128) : Fin 4096 := ⟨128 * c.val + r.val, by omega⟩

/-- What device `c` gathers is its rows of the whole of `x`: columns `128 * d …` of it come from device `d`. -/
theorem gathered_eq (x : Vec Ideal Cert.ReferenceIdeal.S4096x4096 .fp8e5m2)
    (hx : ∀ d : Fin 32, argX m d = Layout.block ⟨2, ![4096, 128]⟩ ⟨2, ![4096, 4096]⟩ 1 32 d x)
    (c : Fin 32) (r : Fin 128) (k : Fin 4096) :
    gathered (xblk m) c (ix2 r k) = x (ix2 (rowOf c r) k) := by
  show xblk m (owner (ix2 r k)) (place c (ix2 r k)) = _
  rw [show xblk m (owner (ix2 r k)) = argX m (owner (ix2 r k)) from xblk_eq m _, hx]
  refine congrArg x (funext fun a => Fin.ext ?_)
  match a with
  | ⟨0, _⟩ => rfl
  | ⟨1, _⟩ =>
    show k.val / 128 * 128 + k.val % 128 = k.val
    omega

/-- Each device's result is its block of rows of the reference's. -/
theorem result_block
    (hx : ∀ d : Fin 32, argX m d = Layout.block ⟨2, ![4096, 128]⟩ ⟨2, ![4096, 4096]⟩ 1 32 d (Ref.argX m' 0))
    (c : Fin 32) (hw : argW m c = Ref.argW m' 0) (hp : argP m c = Ref.argP m' 0) (hq : argQ m c = Ref.argQ m' 0) :
    result m c = Layout.block ⟨2, ![128, 8192]⟩ ⟨2, ![4096, 8192]⟩ 0 32 c (Ref.result m' 0 : Vec Ideal Cert.ReferenceIdeal.S4096x8192 .f32) := by
  have key : ∀ (r : Fin 128) (n : Fin 8192), result m c (ix2 r n) = (Ref.result m' 0 : Vec Ideal Cert.ReferenceIdeal.S4096x8192 .f32) (ix2 (rowOf c r) n) := fun r n => by
    show outAt m c (tileOf n) (ix2 r (inTile n)) = Cert.ReferenceIdeal.Gen.k0_pay1 (F := Ideal) _ _ _ _ (ix2 (rowOf c r) n)
    unfold outAt
    rw [tile_at, whole_at, iblk_2, iblk_3, hp, hq]
    refine congrArg (fun s => gate (s * _)) (Finset.sum_congr rfl fun k _ => ?_)
    rw [gathered_eq m _ hx, iblk_1, colOf_tile, hw]
  refine funext fun (i : Cert.KernelIdeal.S128x8192.Idx) => ?_
  rw [eq_ix2 i]
  refine (key (i 0) (i 1)).trans (congrArg (Ref.result m' 0 : Vec Ideal Cert.ReferenceIdeal.S4096x8192 .f32) (funext fun a => Fin.ext ?_))
  match a with
  | ⟨0, _⟩ => show 128 * c.val + (i 0).val = c.val * 128 + (i 0).val; omega
  | ⟨1, _⟩ => rfl

end Cert.A2A

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Equal
public import Idealize.ShloMosaic.Adequacy
public import Idealize.ShloMosaic.Init

@[expose] public section

noncomputable section

namespace Cert.Proof

open Idealize.ShloMosaic Idealize.SL.Sem Cert.Kernel

/-- What the frame claim of the program as printed says, said of the idealized text run at machine words. -/
def words : Prop :=
  ∀ (m : (ℓ : Loc Cert.KernelIdeal.nD Cert.KernelIdeal.τ Cert.KernelIdeal.sig) → Buf (Elt Bits) ℓ) (g : Dev Cert.KernelIdeal.nD → PrngReg), True →
    θ_run (Cert.KernelIdeal.defs (F := Bits)) (onTc (τ := Cert.KernelIdeal.τ) (Cert.KernelIdeal.main (F := Bits))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

theorem words_hold : words := fun m g _ =>
  (θ_run Cert.KernelIdeal.defs _ _).mono (fun _ h => ⟨fun c => (h.1 c).2, h.2⟩) (Cert.A2A.run (F := Bits) m g)

/-- The two programs are one text, so the two statements are one. -/
theorem words_eq : words = Cert.quiescent_Kernel := by sl_kernel_rfl

theorem kernel_quiescent : Cert.quiescent_Kernel := words_eq ▸ words_hold

theorem kernelIdeal_quiescent : Cert.quiescent_KernelIdeal := fun m g _ =>
  (θ_run Cert.KernelIdeal.defs _ _).mono (fun _ h => ⟨fun c => (h.1 c).2, h.2⟩) (Cert.A2A.run (F := Ideal) m g)

theorem reference_quiescent : Cert.quiescent_ReferenceIdeal := fun m g _ => Cert.ReferenceIdeal.Gen.frame m g

/-- The value both end with is the reference's array; each device holds its block of rows of it. -/
theorem algebraic : Cert.algebraic_KernelIdeal_ReferenceIdeal := fun m g m' g' _ hin =>
  ⟨Cert.A2A.Ref.result m' 0,
    (θ_run Cert.KernelIdeal.defs _ _).mono (fun _ h c =>
      ⟨(h.1 c).1.trans (Cert.A2A.result_block m m' (fun d => (hin d).1) c (hin c).2.1 (hin c).2.2.1 (hin c).2.2.2), (h.1 c).2⟩) (Cert.A2A.run (F := Ideal) m g),
    (θ_run Cert.ReferenceIdeal.defs _ _).mono (fun _ h => h 0) (Cert.A2A.Ref.run (F := Ideal) m' g')⟩

theorem claim : Cert.Claim := ⟨Cert.Kernel.Gen.facts, Cert.KernelIdeal.Gen.facts, Cert.ReferenceIdeal.Gen.facts,
  kernel_quiescent, kernelIdeal_quiescent, reference_quiescent, trivial, algebraic⟩

end Cert.Proof

end
